-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_inputs [hPre_proper_inputs : Cert.Pre_proper_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_proper_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_inputs [hPre_proper_inputs : Cert.Pre_proper_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper_inputs [hKernelIdeal : Cert.KernelIdeal.Facts] [hPre_proper_inputs : Cert.Pre_proper_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper_inputs [hReferenceIdeal : Cert.ReferenceIdeal.Facts] [hPre_proper_inputs : Cert.Pre_proper_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_proper_inputs [hKernelIdeal : Cert.KernelIdeal.Facts] [hReferenceIdeal : Cert.ReferenceIdeal.Facts] [hPre_proper_inputs : Cert.Pre_proper_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_proper_inputs : Cert.Pre_proper_inputs.Facts),
    quiescent_Kernel (hKernel := hKernel)
    ∧ quiescent_KernelIdeal (hKernelIdeal := hKernelIdeal)
    ∧ quiescent_KernelIdeal_pre_proper_inputs (hKernelIdeal := hKernelIdeal) (hPre_proper_inputs := hPre_proper_inputs)
    ∧ quiescent_ReferenceIdeal (hReferenceIdeal := hReferenceIdeal)
    ∧ quiescent_ReferenceIdeal_pre_proper_inputs (hReferenceIdeal := hReferenceIdeal) (hPre_proper_inputs := hPre_proper_inputs)
    ∧ preserves_Kernel_KernelIdeal
    ∧ algebraic_KernelIdeal_ReferenceIdeal_pre_proper_inputs (hKernelIdeal := hKernelIdeal) (hReferenceIdeal := hReferenceIdeal) (hPre_proper_inputs := hPre_proper_inputs)
-- ==== Pre_proper_inputs.lean ====
abbrev S128x8192x64 : Shape := ⟨3, ![128, 8192, 64]⟩
abbrev S128x8192 : Shape := ⟨2, ![128, 8192]⟩
abbrev S128x1 : Shape := ⟨2, ![128, 1]⟩
abbrev S64x256 : Shape := ⟨2, ![64, 256]⟩
abbrev S256 : Shape := ⟨1, ![256]⟩
abbrev S_ : Shape := ⟨0, ![]⟩
abbrev S128 : Shape := ⟨1, ![128]⟩

class Facts : Prop where
  reducesTo_S128x8192_S128_d1 : S128x8192.ReducesTo [1] S128
  h_S_ : 0 < S_.numel
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v15 : IVec S256 1) : IVec S_ 1 :=
  let main_cst_6 : FVec F S_ .f32 := constant S_ .f32 0x7F800000#32
  let main_v16 : FVec F S256 .f32 := broadcastInDim S256 ![] bcast_S_S256 main_cst_6
  let main_v17 : IVec S256 1 := cmpf .olt main_arg4 main_v16
  let main_v18 : IVec S256 1 := andi main_v15 main_v17
  let main_c_7 : IVec S_ 1 := constantI S_ 1 1#1
  let main_v19 : IVec S_ 1 := (fun x v => Host.reduce IntOp.andi x v reducesTo_S256_S_d0 h_S_) main_v18 main_c_7
  let main_v20 : IVec S_ 1 := andi main_v13 main_v19
  main_v20

def fn {F : FTy → Type} [FloatOps F] (main_arg0 : FVec F S128x8192x64 .f32) (main_arg1 : FVec F S128x8192 .f32) (main_arg2 : FVec F S128x1 .f32) (main_arg3 : FVec F S64x256 .f32) (main_arg4 : FVec F S256 .f32) : IVec S_ 1 :=
  let main_cst : FVec F S_ .f32 := constant S_ .f32 0xFF800000#32
  let main_v0 : FVec F S128 .f32 := (fun x v => Host.reduce FloatOps.maximumf x v reducesTo_S128x8192_S128_d1 h_S_) main_arg1 main_cst
  let main_cst_0 : FVec F S_ .f32 := constant S_ .f32 0x00000000#32
  let main_v1 : FVec F S128x1 .f32 := broadcastInDim S128x1 ![] bcast_S_S128x1 main_cst_0
  let main_v2 : IVec S128x1 1 := cmpf .oge main_arg2 main_v1
  let main_cst_1 : FVec F S_ .f32 := constant S_ .f32 0x3F800000#32
  let main_v3 : FVec F S128x1 .f32 := broadcastInDim S128x1 ![] bcast_S_S128x1 main_cst_1
  let main_v4 : IVec S128x1 1 := cmpf .ole main_arg2 main_v3
  let main_v5 : IVec S128x1 1 := andi main_v2 main_v4
  let main_c : IVec S_ 1 := constantI S_ 1 1#1
  let main_v6 : IVec S_ 1 := (fun x v => Host.reduce IntOp.andi x v reducesTo_S128x1_S_d0_1 h_S_) main_v5 main_c
  let main_cst_2 : FVec F S_ .f32 := constant S_ .f32 0xFF800000#32
  let main_v7 : FVec F S128 .f32 := broadcastInDim S128 ![] bcast_S_S128 main_cst_2
  let main_v8 : IVec S128 1 := cmpf .ogt main_v0 main_v7
  let main_cst_3 : FVec F S_ .f32 := constant S_ .f32 0x7F800000#32
  let main_v9 : FVec F S128 .f32 := broadcastInDim S128 ![] bcast_S_S128 main_cst_3
  let main_v10 : IVec S128 1 := cmpf .olt main_v0 main_v9
  let main_v11 : IVec S128 1 := andi main_v8 main_v10
  let main_c_4 : IVec S_ 1 := constantI S_ 1 1#1
  let main_v12 : IVec S_ 1 := (fun x v => Host.reduce IntOp.andi x v reducesTo_S128_S_d0 h_S_) main_v11 main_c_4
  let main_v13 : IVec S_ 1 := andi main_v6 main_v12
  let main_cst_5 : FVec F S_ .f32 := constant S_ .f32 0xFF800000#32
  let main_v14 : FVec F S256 .f32 := broadcastInDim S256 ![] bcast_S_S256 main_cst_5
  let main_v15 : IVec S256 1 := cmpf .ogt main_arg4 main_v14
  fn_part1 (F := F) main_arg4 main_v13 main_v15
-- ==== Kernel.lean ====
abbrev S128x8192x64 : Shape := ⟨3, ![128, 8192, 64]⟩
abbrev S128x8192 : Shape := ⟨2, ![128, 8192]⟩
abbrev S128x1 : Shape := ⟨2, ![128, 1]⟩
abbrev S64x256 : Shape := ⟨2, ![64, 256]⟩
abbrev S256 : Shape := ⟨1, ![256]⟩
abbrev S128x1x8192 : Shape := ⟨3, ![128, 1, 8192]⟩
abbrev S128x1x1 : Shape := ⟨3, ![128, 1, 1]⟩
abbrev S256x64 : Shape := ⟨2, ![256, 64]⟩
abbrev S1x256 : Shape := ⟨2, ![1, 256]⟩
abbrev S128x1x64 : Shape := ⟨3, ![128, 1, 64]⟩
abbrev S1x1x8192 : Shape := ⟨3, ![1, 1, 8192]⟩
abbrev S1x1x1 : Shape := ⟨3, ![1, 1, 1]⟩
abbrev S1x8192x64 : Shape := ⟨3, ![1, 8192, 64]⟩
abbrev S1x1x64 : Shape := ⟨3, ![1, 1, 64]⟩
abbrev S1x8192 : Shape := ⟨2, ![1, 8192]⟩
abbrev S1x1 : Shape := ⟨2, ![1, 1]⟩
abbrev S1 : Shape := ⟨1, ![1]⟩
abbrev S1x8191 : Shape := ⟨2, ![1, 8191]⟩
abbrev S1x2 : Shape := ⟨2, ![1, 2]⟩
abbrev S1x8190 : Shape := ⟨2, ![1, 8190]⟩
abbrev S1x4 : Shape := ⟨2, ![1, 4]⟩
abbrev S1x8188 : Shape := ⟨2, ![1, 8188]⟩
abbrev S1x8 : Shape := ⟨2, ![1, 8]⟩
abbrev S1x8184 : Shape := ⟨2, ![1, 8184]⟩
abbrev S1x16 : Shape := ⟨2, ![1, 16]⟩
abbrev S1x8176 : Shape := ⟨2, ![1, 8176]⟩
abbrev S1x32 : Shape := ⟨2, ![1, 32]⟩
abbrev S1x8160 : Shape := ⟨2, ![1, 8160]⟩
abbrev S1x64 : Shape := ⟨2, ![1, 64]⟩
abbrev S1x8128 : Shape := ⟨2, ![1, 8128]⟩
abbrev S1x128 : Shape := ⟨2, ![1, 128]⟩
abbrev S1x8064 : Shape := ⟨2, ![1, 8064]⟩
abbrev S1x7936 : Shape := ⟨2, ![1, 7936]⟩
abbrev S1x512 : Shape := ⟨2, ![1, 512]⟩
abbrev S1x7680 : Shape := ⟨2, ![1, 7680]⟩
abbrev S1x1024 : Shape := ⟨2, ![1, 1024]⟩
abbrev S1x7168 : Shape := ⟨2, ![1, 7168]⟩
abbrev S1x2048 : Shape := ⟨2, ![1, 2048]⟩
abbrev S1x6144 : Shape := ⟨2, ![1, 6144]⟩
abbrev S1x4096 : Shape := ⟨2, ![1, 4096]⟩
abbrev S1x4096x64 : Shape := ⟨3, ![1, 4096, 64]⟩
abbrev S4096x64 : Shape := ⟨2, ![4096, 64]⟩
abbrev S256x4096 : Shape := ⟨2, ![256, 4096]⟩
abbrev S128x64 : Shape := ⟨2, ![128, 64]⟩

abbrev nBuf : Space → Nat
  | .hbm => 11
  | .vmem => 10
  | .smem => 0
  | _ => 0

abbrev bufTy : (tb : Table) → Fin (tcTables nBuf tb) → BufTy
  | .hbm, ⟨0, _⟩ => ⟨S128x8192x64, .f32⟩
  | .hbm, ⟨1, _⟩ => ⟨S128x8192, .f32⟩
  | .hbm, ⟨2, _⟩ => ⟨S128x1, .f32⟩
  | .hbm, ⟨3, _⟩ => ⟨S64x256, .f32⟩
  | .hbm, ⟨4, _⟩ => ⟨S256, .f32⟩
  | .hbm, ⟨5, _⟩ => ⟨S128x1x8192, .f32⟩
  | .hbm, ⟨6, _⟩ => ⟨S128x1x1, .f32⟩
  | .hbm, ⟨7, _⟩ => ⟨S256x64, .f32⟩
  | .hbm, ⟨8, _⟩ => ⟨S1x256, .f32⟩
  | .hbm, ⟨9, _⟩ => ⟨S128x1x64, .f32⟩
  | .hbm, ⟨10, _⟩ => ⟨S128x64, .f32⟩
  | .local _ .vmem, ⟨0, _⟩ => ⟨S1x1x8192, .f32⟩
  | .local _ .vmem, ⟨1, _⟩ => ⟨S1x1x8192, .f32⟩
  | .local _ .vmem, ⟨2, _⟩ => ⟨S1x1x1, .f32⟩
  | .local _ .vmem, ⟨3, _⟩ => ⟨S1x1x1, .f32⟩
  | .local _ .vmem, ⟨4, _⟩ => ⟨S1x8192x64, .f32⟩
  | .local _ .vmem, ⟨5, _⟩ => ⟨S1x8192x64, .f32⟩
  | .local _ .vmem, ⟨6, _⟩ => ⟨S256x64, .f32⟩
  | .local _ .vmem, ⟨7, _⟩ => ⟨S1x256, .f32⟩
  | .local _ .vmem, ⟨8, _⟩ => ⟨S1x1x64, .f32⟩
  | .local _ .vmem, ⟨9, _⟩ => ⟨S1x1x64, .f32⟩
  | _, _ => ⟨S128x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x8192x64 : Shape := ⟨3, ![128, 8192, 64]⟩
abbrev S128x8192 : Shape := ⟨2, ![128, 8192]⟩
abbrev S128x1 : Shape := ⟨2, ![128, 1]⟩
abbrev S64x256 : Shape := ⟨2, ![64, 256]⟩
abbrev S256 : Shape := ⟨1, ![256]⟩
abbrev S_ : Shape := ⟨0, ![]⟩
abbrev S128 : Shape := ⟨1, ![128]⟩
abbrev S8192 : Shape := ⟨1, ![8192]⟩
abbrev S1x8192 : Shape := ⟨2, ![1, 8192]⟩
abbrev S128x1x8192 : Shape := ⟨3, ![128, 1, 8192]⟩
abbrev S128x8192x1 : Shape := ⟨3, ![128, 8192, 1]⟩
abbrev S128x8192x8192 : Shape := ⟨3, ![128, 8192, 8192]⟩
abbrev S1 : Shape := ⟨1, ![1]⟩
abbrev S1x1x1 : Shape := ⟨3, ![1, 1, 1]⟩
abbrev S128x8192x256 : Shape := ⟨3, ![128, 8192, 256]⟩
abbrev S128x64 : Shape := ⟨2, ![128, 64]⟩

abbrev nBuf : Space → Nat
  | .hbm => 153
  | .vmem => 0
  | .smem => 0
  | _ => 0

abbrev hbmTy0_0 (i : Nat) : BufTy := match i % 128 with
  | 0 => ⟨S128x8192x64, .f32⟩
  | 1 => ⟨S128x8192, .f32⟩
  | 2 => ⟨S128x1, .f32⟩
  | 3 => ⟨S64x256, .f32⟩
  | 4 => ⟨S256, .f32⟩
  | 5 => ⟨S_, .f32⟩
  | 6 => ⟨S128, .f32⟩
  | 7 => ⟨S_, .f32⟩
  | 8 => ⟨S128, .f32⟩
  | 9 => ⟨S128, .f32⟩
  | 10 => ⟨S128x1, .f32⟩
  | 11 => ⟨S128x8192, .f32⟩
  | 12 => ⟨S128x8192, .f32⟩
  | 13 => ⟨S128x8192, .f32⟩
  | 14 => ⟨S_, .f32⟩
  | 15 => ⟨S128, .f32⟩
  | 16 => ⟨S128x1, .f32⟩
  | 17 => ⟨S128x8192, .f32⟩
  | 18 => ⟨S128x8192, .f32⟩
  | 19 => ⟨S_, .f32⟩
  | 20 => ⟨S128x8192, .f32⟩
  | 21 => ⟨S128x8192, .f32⟩
  | 22 => ⟨S_, .f32⟩
  | 23 => ⟨S128x8192, .f32⟩
  | 24 => ⟨S128x8192, .f32⟩
  | 25 => ⟨S_, .f32⟩
  | 26 => ⟨S_, .f32⟩
  | 27 => ⟨S128x8192, .f32⟩
  | 28 => ⟨S128x1, .f32⟩
  | 29 => ⟨S128x8192, .f32⟩
  | 30 => ⟨S128x8192, .f32⟩
  | 31 => ⟨S8192, .f32⟩
  | 32 => ⟨S1x8192, .f32⟩
  | 33 => ⟨S128x8192, .f32⟩
  | 34 => ⟨S128x8192, .f32⟩
  | 35 => ⟨S128x8192, .f32⟩
  | 36 => ⟨S_, .f32⟩
  | 37 => ⟨S128x8192, .f32⟩
  | 38 => ⟨S128x8192, .f32⟩
  | 39 => ⟨S128x1x8192, .f32⟩
  | 40 => ⟨S128x8192x1, .f32⟩
  | 41 => ⟨S128x8192x8192, .f32⟩
  | 42 => ⟨S128x8192x8192, .f32⟩
  | 43 => ⟨S128x8192x8192, .i1⟩
  | 44 => ⟨S128x8192x8192, .i32⟩
  | 45 => ⟨S_, .i32⟩
  | 46 => ⟨S128x8192, .i32⟩
  | 47 => ⟨S_, .i32⟩
  | 48 => ⟨S_, .i32⟩
  | 49 => ⟨S_, .i32⟩
  | 50 => ⟨S128x8192, .i32⟩
  | 51 => ⟨S128x8192, .i32⟩
  | 52 => ⟨S_, .i32⟩
  | 53 => ⟨S128x8192, .i32⟩
  | 54 => ⟨S128x8192, .i32⟩
  | 55 => ⟨S128x8192x1, .i32⟩
  | 56 => ⟨S_, .i32⟩
  | 57 => ⟨S128x8192x1, .i32⟩
  | 58 => ⟨S128x8192x1, .i1⟩
  | 59 => ⟨S_, .i32⟩
  | 60 => ⟨S128x8192x1, .i32⟩
  | 61 => ⟨S128x8192x1, .i32⟩
  | 62 => ⟨S128x8192x1, .i32⟩
  | 63 => ⟨S1, .i32⟩
  | 64 => ⟨S_, .i32⟩
  | 65 => ⟨S128x8192x1, .i32⟩
  | 66 => ⟨S128x8192x1, .i1⟩
  | 67 => ⟨S1x1x1, .i32⟩
  | 68 => ⟨S128x8192x1, .i32⟩
  | 69 => ⟨S128x8192x1, .i1⟩
  | 70 => ⟨S128x8192x1, .i1⟩
  | 71 => ⟨S_, .i1⟩
  | 72 => ⟨S128x8192, .i1⟩
  | 73 => ⟨S128x8192x64, .f32⟩
  | 74 => ⟨S128x8192x64, .i1⟩
  | 75 => ⟨S_, .f32⟩
  | 76 => ⟨S128x8192x64, .f32⟩
  | 77 => ⟨S128x8192x64, .f32⟩
  | 78 => ⟨S_, .i32⟩
  | 79 => ⟨S128x8192, .i32⟩
  | 80 => ⟨S128x8192, .i1⟩
  | 81 => ⟨S_, .i32⟩
  | 82 => ⟨S128x8192, .i32⟩
  | 83 => ⟨S128x8192, .i32⟩
  | 84 => ⟨S128x8192, .i32⟩
  | 85 => ⟨S128x8192x1, .i32⟩
  | 86 => ⟨S1, .i32⟩
  | 87 => ⟨S_, .i32⟩
  | 88 => ⟨S128x8192x1, .i32⟩
  | 89 => ⟨S128x8192x1, .i1⟩
  | 90 => ⟨S1x1x1, .i32⟩
  | 91 => ⟨S128x8192x1, .i32⟩
  | 92 => ⟨S128x8192x1, .i1⟩
  | 93 => ⟨S128x8192x1, .i1⟩
  | 94 => ⟨S_, .i1⟩
  | 95 => ⟨S128x8192, .i1⟩
  | 96 => ⟨S128x8192, .f32⟩
  | 97 => ⟨S_, .f32⟩
  | 98 => ⟨S128x8192, .f32⟩
  | 99 => ⟨S128x8192, .f32⟩
  | 100 => ⟨S_, .i32⟩
  | 101 => ⟨S128x8192, .i32⟩
  | 102 => ⟨S128x8192, .i1⟩
  | 103 => ⟨S_, .i32⟩
  | 104 => ⟨S128x8192, .i32⟩
  | 105 => ⟨S128x8192, .i32⟩
  | 106 => ⟨S128x8192, .i32⟩
  | 107 => ⟨S128x8192x1, .i32⟩
  | 108 => ⟨S1, .i32⟩
  | 109 => ⟨S_, .i32⟩
  | 110 => ⟨S128x8192x1, .i32⟩
  | 111 => ⟨S128x8192x1, .i1⟩
  | 112 => ⟨S1x1x1, .i32⟩
  | 113 => ⟨S128x8192x1, .i32⟩
  | 114 => ⟨S128x8192x1, .i1⟩
  | 115 => ⟨S128x8192x1, .i1⟩
  | 116 => ⟨S_, .i1⟩
  | 117 => ⟨S128x8192, .i1⟩
  | 118 => ⟨S128x8192, .f32⟩
  | 119 => ⟨S_, .f32⟩
  | 120 => ⟨S128x8192, .f32⟩
  | 121 => ⟨S128x8192, .f32⟩
  | 122 => ⟨S_, .f32⟩
  | 123 => ⟨S128x8192, .f32⟩
  | 124 => ⟨S128x8192, .f32⟩
  | 125 => ⟨S128x8192, .f32⟩
  | 126 => ⟨S128x8192x256, .f32⟩
  | 127 => ⟨S128x8192x256, .f32⟩
  | _ => ⟨S128x8192x64, .f32⟩

abbrev hbmTy0_1 (i : Nat) : BufTy := match i % 128 with
  | 0 => ⟨S128x8192, .f32⟩
  | 1 => ⟨S_, .f32⟩
  | 2 => ⟨S128x8192, .f32⟩
  | 3 => ⟨S128x8192, .f32⟩
  | 4 => ⟨S128x8192, .f32⟩
  | 5 => ⟨S128x8192, .f32⟩
  | 6 => ⟨S_, .f32⟩
  | 7 => ⟨S128, .f32⟩
  | 8 => ⟨S_, .f32⟩
  | 9 => ⟨S128, .f32⟩
  | 10 => ⟨S128, .f32⟩
  | 11 => ⟨S128x1, .f32⟩
  | 12 => ⟨S128x8192, .f32⟩
  | 13 => ⟨S128x8192, .f32⟩
  | 14 => ⟨S128x8192, .f32⟩
  | 15 => ⟨S_, .f32⟩
  | 16 => ⟨S128, .f32⟩
  | 17 => ⟨S128x1, .f32⟩
  | 18 => ⟨S128x8192, .f32⟩
  | 19 => ⟨S128x8192, .f32⟩
  | 20 => ⟨S128x8192x1, .f32⟩
  | 21 => ⟨S128x8192x64, .f32⟩
  | 22 => ⟨S128x8192x64, .f32⟩
  | 23 => ⟨S_, .f32⟩
  | 24 => ⟨S128x64, .f32⟩
  | _ => ⟨S128x8192x64, .f32⟩

abbrev hbmTy (i : Nat) : BufTy := match i / 128 with
  | 0 => hbmTy0_0 i
  | 1 => hbmTy0_1 i
  | _ => ⟨S128x8192x64, .f32⟩

abbrev bufTy : (tb : Table) → Fin (tcTables nBuf tb) → BufTy
  | .hbm, ⟨i, _⟩ => hbmTy i
  | _, _ => ⟨S128x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_call0_call0_cst : Ref sig .tc := ⟨.hbm, 25, rfl⟩
abbrev main_call0_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_c_5 : Ref sig .tc := ⟨.hbm, 47, rfl⟩
abbrev main_c_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v33 : Ref sig .tc := ⟨.hbm, 54, rfl⟩
abbrev main_v34 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_c_2 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_c_3 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v35 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_cst : Ref sig .tc := ⟨.hbm, 97, rfl⟩
abbrev main_call3_v14 : Ref sig .tc := ⟨.hbm, 98, rfl⟩
abbrev main_v36 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_cst : Ref sig .tc := ⟨.hbm, 119, rfl⟩
abbrev main_call4_v14 : Ref sig .tc := ⟨.hbm, 120, rfl⟩
abbrev main_v37 : Ref sig .tc := ⟨.hbm, 121, rfl⟩
abbrev main_cst_7 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_cst_8 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_cst_9 : Ref sig .tc := ⟨.hbm, 134, rfl⟩
abbrev main_v48 : Ref sig .tc := ⟨.hbm, 135, rfl⟩
abbrev main_cst_10 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_cst_11 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_cst_12 : Ref sig .tc := ⟨.hbm, 151, rfl⟩
abbrev main_v62 : Ref sig .tc := ⟨.hbm, 152, rfl⟩

abbrev nD : Nat := 1
abbrev τ : Topo := Topo.v7x

variable {F : FTy → Type} [FloatOps F]
-- ==== Proof.Counting.lean ====
/- Counting on a line of sorted marks: how many evenly spaced positions a mark covers, and how many of them fall between
   one mark and the next. Real numbers only. -/
module

public import Idealize.ShloMosaic.Lib.Pointwise

@[expose] public section

noncomputable section

namespace Cert.Counting

open Finset

/-- Of the positions `u, 1 + u, …, (N-1) + u` with `0 ≤ u ≤ 1`, the number that do not exceed `t` (where `0 ≤ t ≤ N`) is
    `⌊t⌋`, plus one when `⌊t⌋ + u` still does not exceed `t`, kept within `0` and `N`. -/
theorem card_positions (N : ℕ) {u t : ℝ} (hu0 : 0 ≤ u) (hu1 : u ≤ 1) (ht0 : 0 ≤ t) (htN : t ≤ N) :
    min (max ((⌊t⌋ : ℝ) + if (⌊t⌋ : ℝ) + u ≤ t then 1 else 0) 0) (N : ℝ)
      = ((univ.filter fun i : Fin N => (i.val : ℝ) + u ≤ t).card : ℝ) := by
  obtain ⟨k, hk⟩ : ∃ k : ℕ, ⌊t⌋ = (k : ℤ) := ⟨⌊t⌋.toNat, (Int.toNat_of_nonneg (Int.floor_nonneg.2 ht0)).symm⟩
  have hkt : (k : ℝ) ≤ t := by have := Int.floor_le t; rw [hk] at this; exact_mod_cast this
  have htk : t < k + 1 := by have := Int.lt_floor_add_one t; rw [hk] at this; exact_mod_cast this
  have hkN : k ≤ N := by exact_mod_cast hkt.trans htN
  have hlow : ∀ i : ℕ, i < k → (i : ℝ) + u ≤ t := fun i hi => by
    have h1 : (i : ℝ) + 1 ≤ k := by exact_mod_cast hi
    linarith
  have hhigh : ∀ i : ℕ, k < i → ¬ (i : ℝ) + u ≤ t := fun i hi h => by
    have h1 : (k : ℝ) + 1 ≤ i := by exact_mod_cast hi
    linarith
  have hcount : ∀ r : ℕ, r ≤ N → (∀ i : ℕ, i < N → ((i : ℝ) + u ≤ t ↔ i < r)) →
      (univ.filter fun i : Fin N => (i.val : ℝ) + u ≤ t).card = r := fun r hr h => by
    rw [filter_congr (fun i _ => h i.val i.isLt), Fin.card_filter_val_lt, min_eq_right hr]
  rw [hk]
  simp only [Int.cast_natCast]
  have hk0 : (0 : ℝ) ≤ k := Nat.cast_nonneg k
  rcases hkN.lt_or_eq with hlt | heq
  · have h1 : (k : ℝ) + 1 ≤ N := by exact_mod_cast hlt
    by_cases hc : (k : ℝ) + u ≤ t
    · rw [if_pos hc, hcount (k + 1) hlt fun i _ => ⟨fun h => by
        by_contra hn
        exact hhigh i (by omega) h, fun h => by
        rcases Nat.lt_succ_iff_lt_or_eq.1 h with h | h
        · exact hlow i h
        · rw [h]; exact hc⟩]
      push_cast
      rw [max_eq_left (by linarith), min_eq_left h1]
    · rw [if_neg hc, hcount k hkN fun i _ => ⟨fun h => by
        rcases lt_trichotomy i k with h' | h' | h'
        · exact h'
        · rw [h'] at h; exact absurd h hc
        · exact absurd h (hhigh i h'), hlow i⟩]
      rw [add_zero, max_eq_left hk0, min_eq_left (by linarith)]
  · rw [hcount N le_rfl fun i hi => ⟨fun _ => hi, fun _ => hlow i (by omega)⟩, heq]
    have h0 : (0 : ℝ) ≤ if (N : ℝ) + u ≤ t then 1 else 0 := by split_ifs <;> norm_num
    rw [min_eq_right (le_max_of_le_left (by linarith))]

/-- Among marks in increasing order, the number of marks below `p` is at most `j` exactly when mark `j` is not below `p`. -/
theorem card_below_le_iff {N : ℕ} (cum : Fin N → ℝ) (hmono : Monotone cum) (p : ℝ) (j : Fin N) :
    (univ.filter fun l : Fin N => cum l < p).card ≤ j.val ↔ p ≤ cum j := by
  constructor
  · intro h
    by_contra hn
    have hsub : (univ.filter fun l : Fin N => l ≤ j) ⊆ univ.filter fun l : Fin N => cum l < p := fun l hl => by
      simp only [mem_filter, mem_univ, true_and] at hl ⊢
      exact (hmono hl).trans_lt (not_le.1 hn)
    have hcard : (univ.filter fun l : Fin N => l ≤ j).card = j.val + 1 := by
      have := Fin.card_Iic j
      rw [← this]
      congr 1
      ext l
      simp
    have := card_le_card hsub
    omega
  · intro h
    have hsub : (univ.filter fun l : Fin N => cum l < p) ⊆ Finset.Iio j := fun l hl => by
      simp only [mem_filter, mem_univ, true_and] at hl
      rw [mem_Iio]
      by_contra hn
      exact absurd (h.trans (hmono (not_lt.1 hn))) (not_le.2 hl)
    exact (card_le_card hsub).trans_eq (Fin.card_Iio j)

/-- When position `i` is sent to the number of marks below it, the number of positions sent to `j` is the number that mark
    `j` covers less the number the mark before it covers (none before the first). -/
theorem card_sent {N : ℕ} (cum pos : Fin N → ℝ) (hmono : Monotone cum) (idx : Fin N → Fin N)
    (hidx : ∀ i, (idx i).val = (univ.filter fun l : Fin N => cum l < pos i).card) (j : Fin N) :
    ((univ.filter fun i : Fin N => pos i ≤ cum j).card : ℝ)
        - (if h : j.val < 1 then 0
          else ((univ.filter fun i : Fin N => pos i ≤ cum ⟨j.val - 1, by omega⟩).card : ℝ))
      = ((univ.filter fun i : Fin N => idx i = j).card : ℝ) := by
  have hle : ∀ i k : Fin N, pos i ≤ cum k ↔ idx i ≤ k := fun i k => by
    rw [← card_below_le_iff cum hmono, ← hidx, Fin.le_def]
  by_cases h : j.val < 1
  · rw [dif_pos h, sub_zero]
    congr 2
    refine filter_congr fun i _ => ?_
    rw [hle, Fin.le_def, Fin.ext_iff]
    omega
  · rw [dif_neg h, sub_eq_iff_eq_add, ← Nat.cast_add, add_comm, ← card_union_of_disjoint]
    · congr 2
      ext i
      simp only [mem_union, mem_filter, mem_univ, true_and, hle, Fin.le_def, Fin.ext_iff]
      omega
    · rw [disjoint_filter]
      intro i _ h1 h2
      rw [hle, Fin.le_def] at h1
      rw [h2] at h1
      change j.val ≤ j.val - 1 at h1
      omega

end Cert.Counting

end
-- ==== Proof.RunningSum.lean ====
/- The running sum by doubling: adding to a vector itself moved by `1, 2, 4, …` places sums ever longer stretches. -/
module

public import Idealize.ShloMosaic.Lib.Pointwise

@[expose] public section

noncomputable section

namespace Cert.RunningSum

open Finset

variable {A : Type} [AddCommMonoid A] {N : ℕ}

/-- `x` moved `d` places to the right, zeros coming in. -/
def moved (d : ℕ) (x : Fin N → A) (j : Fin N) : A :=
  if h : j.val < d then 0 else x ⟨j.val - d, by omega⟩

/-- The sum of the last `d` entries of `a` up to and including entry `j` (fewer near the start). -/
def stretch (a : Fin N → A) (d : ℕ) (j : Fin N) : A :=
  ∑ l ∈ univ.filter (fun l : Fin N => l.val ≤ j.val ∧ j.val < l.val + d), a l

/-- The sum of the entries of `a` up to and including entry `j`. -/
def upTo (a : Fin N → A) (j : Fin N) : A :=
  ∑ l ∈ univ.filter (fun l : Fin N => l ≤ j), a l

/-- A stretch of length one is the entry itself. -/
theorem stretch_one (a : Fin N → A) (j : Fin N) : stretch a 1 j = a j := by
  unfold stretch
  rw [sum_eq_single_of_mem j (by simp)]
  intro l hl hne
  rw [mem_filter] at hl
  exact absurd (Fin.ext (by omega)) hne

/-- Stretches of length `d`, added to themselves moved by `d`, are the stretches of length `d + d`. -/
theorem stretch_add (a : Fin N → A) (d : ℕ) (j : Fin N) :
    stretch a d j + moved d (stretch a d) j = stretch a (d + d) j := by
  unfold moved stretch
  split_ifs with h
  · rw [add_zero]
    refine sum_congr (filter_congr fun l _ => ?_) fun _ _ => rfl
    omega
  · rw [← sum_union]
    · refine sum_congr ?_ fun _ _ => rfl
      ext l
      simp only [mem_union, mem_filter, mem_univ, true_and]
      omega
    · rw [disjoint_filter]
      intro l _ h1 h2
      simp only at h2
      omega

/-- Once the stretch is as long as the vector it is the sum of everything up to `j`. -/
theorem stretch_all (a : Fin N → A) (d : ℕ) (hd : N ≤ d) (j : Fin N) : stretch a d j = upTo a j := by
  unfold stretch upTo
  refine sum_congr (filter_congr fun l _ => ?_) fun _ _ => rfl
  rw [Fin.le_def]
  have := j.isLt
  omega

end Cert.RunningSum

end
-- ==== Proof.RowEquation.lean ====
/- The equation of one row: an average over drawn particles is an average over all particles, each taken as often as it was
   drawn. Particles are extended reals, weights are positive reals. -/
module

public import Idealize.ShloMosaic.Lib.Pointwise

@[expose] public section

noncomputable section

namespace Cert.RowEquation

open Finset Idealize.ShloMosaic

/-- A finite sum of reals, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A nonnegative real factor passes through a finite sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [sum_insert ha, sum_insert ha, ← ih]
    exact EReal.right_distrib_of_nonneg_of_ne_top (EReal.coe_nonneg.2 hr) (EReal.coe_ne_top r) _ _

/-- Adding `x` to itself `n` times is multiplying it by the number `n`. -/
theorem nsmul_eq_coe_mul (n : ℕ) (x : EReal) : n • x = ((n : ℝ) : EReal) * x := by
  induction n with
  | zero => simp
  | succ n ih =>
    rw [succ_nsmul, ih, Nat.cast_succ, EReal.coe_add, EReal.right_distrib_of_nonneg, EReal.coe_one, one_mul]
    · exact EReal.coe_nonneg.2 (Nat.cast_nonneg n)
    · exact EReal.coe_nonneg.2 zero_le_one

/-- A sum over draws is the sum over particles, each counted as often as it was drawn. -/
theorem sum_draws {N : ℕ} (idx : Fin N → Fin N) (f : Fin N → EReal) :
    ∑ i, f (idx i) = ∑ j, (((univ.filter fun i => idx i = j).card : ℝ) : EReal) * f j := by
  rw [← sum_fiberwise univ idx fun i => f (idx i)]
  refine sum_congr rfl fun j _ => ?_
  rw [sum_congr rfl (g := fun _ => f j) fun i hi => by rw [(mem_filter.1 hi).2], sum_const, nsmul_eq_coe_mul]

/-- The same for real numbers. -/
theorem sum_draws_real {N : ℕ} (idx : Fin N → Fin N) (f : Fin N → ℝ) :
    ∑ i, f (idx i) = ∑ j, ((univ.filter fun i => idx i = j).card : ℝ) * f j := by
  rw [← sum_fiberwise univ idx fun i => f (idx i)]
  refine sum_congr rfl fun j _ => ?_
  rw [sum_congr rfl (g := fun _ => f j) fun i hi => by rw [(mem_filter.1 hi).2], sum_const, nsmul_eq_mul]

/-- Dividing by a positive real is multiplying by its inverse, which is a positive real. -/
theorem div_by_pos {Z : ℝ} (hZ : 0 < Z) (x : EReal) : Ideal.div x (Z : EReal) = x * ((Z⁻¹ : ℝ) : EReal) := by
  rw [Ideal.div_coe hZ.ne', one_div]

/-- How often draw `j` is made. -/
def times {N : ℕ} (idx : Fin N → Fin N) (j : Fin N) : ℝ := ((univ.filter fun i => idx i = j).card : ℝ)

/-- The equation of a row. On the left every particle `p j` is weighted by the number of draws that chose it, times its
    weight `v j` and the exponential of its score `l j`, and the sum is divided by the sum of these weights. On the right
    every draw `i` takes the particle `idx i` and weighs it by the softmax (shifted by any real `M`) of `log v + l`. -/
theorem row_equation {N : ℕ} (hN : 0 < N) (idx : Fin N → Fin N) (v l : Fin N → ℝ) (hv : ∀ j, 0 < v j) (p : Fin N → EReal) (M : ℝ) :
    Ideal.div (∑ j, ((times idx j * v j * Real.exp (l j) : ℝ) : EReal) * p j)
        ((∑ j, times idx j * v j * Real.exp (l j) : ℝ) : EReal)
      = ∑ i, Ideal.div ((Real.exp (Real.log (v (idx i)) + l (idx i) - M) : ℝ) : EReal)
          ((∑ k, Real.exp (Real.log (v (idx k)) + l (idx k) - M) : ℝ) : EReal) * p (idx i) := by
  haveI : Nonempty (Fin N) := ⟨⟨0, hN⟩⟩
  obtain ⟨f, hf⟩ : ∃ f : Fin N → ℝ, ∀ j, Real.exp (Real.log (v j) + l j - M) = f j := ⟨_, fun _ => rfl⟩
  obtain ⟨g, hg⟩ : ∃ g : Fin N → ℝ, ∀ j, v j * Real.exp (l j) = g j := ⟨_, fun _ => rfl⟩
  have hM := Real.exp_pos M
  have hfg : ∀ j, g j = f j * Real.exp M := fun j => by
    rw [← hf, ← hg, ← Real.exp_add, sub_add_cancel, Real.exp_add, Real.exp_log (hv j)]
  have hfpos : ∀ j, 0 < f j := fun j => hf j ▸ Real.exp_pos _
  simp only [hf, mul_assoc, hg]
  obtain ⟨S, hS⟩ : ∃ S : ℝ, ∑ k, f (idx k) = S := ⟨_, rfl⟩
  have hSpos : 0 < S := hS ▸ sum_pos (fun k _ => hfpos _) univ_nonempty
  have hZ : ∑ j, times idx j * g j = S * Real.exp M := by
    rw [← hS, sum_draws_real idx f, sum_mul]
    exact sum_congr rfl fun j _ => by rw [hfg, ← mul_assoc]; rfl
  have hZpos : 0 < S * Real.exp M := mul_pos hSpos hM
  rw [hS, hZ, sum_draws idx fun j => Ideal.div (f j : EReal) (S : EReal) * p j, div_by_pos hZpos,
    sum_mul_coe _ _ (inv_nonneg.2 hZpos.le)]
  refine sum_congr rfl fun j _ => ?_
  rw [div_by_pos hSpos, mul_right_comm, ← EReal.coe_mul, ← EReal.coe_mul, ← mul_assoc, ← EReal.coe_mul]
  refine congrArg (fun r : ℝ => (r : EReal) * p j) ?_
  show times idx j * g j * (S * Real.exp M)⁻¹ = times idx j * (f j * S⁻¹)
  rw [hfg]
  have h1 := hSpos.ne'
  have h2 := hM.ne'
  field_simp

end Cert.RowEquation

end
-- ==== Proof.Row.lean ====
/- One row of the resampling step, written once: both programs' rows are read into these definitions. The inputs are a row
   of log-weights `x`, its offset `u`, the row's particles `p`, and the scoring network's matrices `W` and `w`. -/
module

public import Idealize.ShloMosaic.Lib.Pointwise
public import proofs.«01_k».proof.Proof.Counting
public import proofs.«01_k».proof.Proof.RunningSum
public import proofs.«01_k».proof.Proof.RowEquation

@[expose] public section

set_option maxRecDepth 16384

noncomputable section

namespace Cert.Row

open Finset Idealize.ShloMosaic Cert.RunningSum

/-- The half that the softmax weights are mixed with. -/
abbrev half : EReal := Ideal.ofBits .f32 0x3F000000#32
/-- The uniform share each particle is given. -/
abbrev share : EReal := Ideal.ofBits .f32 0x38800000#32
/-- The small constant that keeps quotients and logarithms away from zero. -/
abbrev tiny : EReal := Ideal.ofBits .f32 0x322BCC77#32
/-- The number of particles. -/
abbrev many : EReal := Ideal.ofBits .f32 0x46000000#32

/-- The largest log-weight of the row. -/
def top (x : Fin 8192 → EReal) : EReal := univ.fold max ⊥ x
/-- The exponential of a log-weight less the largest. -/
def raw (x : Fin 8192 → EReal) (j : Fin 8192) : EReal := Ideal.exp (x j - top x)
/-- The softmax weight. -/
def prob (x : Fin 8192 → EReal) (j : Fin 8192) : EReal := Ideal.div (raw x j) (∑ l, raw x l)
/-- The mixed weight: half the softmax weight and the uniform share. -/
def soft (x : Fin 8192 → EReal) (j : Fin 8192) : EReal := half * prob x j + share
/-- The running sum of the mixed weights over their total: the marks of the resampling wheel. -/
def mark (x : Fin 8192 → EReal) (j : Fin 8192) : EReal :=
  Ideal.div (upTo (soft x) j) (upTo (soft x) ⟨8191, by omega⟩)
/-- The importance weight a drawn particle gets. -/
def weight (x : Fin 8192 → EReal) (j : Fin 8192) : EReal := Ideal.div (prob x j) (soft x j + tiny) + tiny
/-- The score of one particle: the network's output. -/
def score (W : Fin 64 → Fin 256 → EReal) (w : Fin 256 → EReal) (q : Fin 64 → EReal) : EReal :=
  ∑ h, Ideal.tanh (∑ d, q d * W d h) * w h
/-- The `i`-th evenly spaced position. -/
def pos (u : EReal) (i : Fin 8192) : EReal := Ideal.div (((i.val : ℝ) : EReal) + u) many
/-- The number of marks below the `i`-th position. -/
def below (x : Fin 8192 → EReal) (u : EReal) (i : Fin 8192) : ℕ := (univ.filter fun l : Fin 8192 => mark x l < pos u i).card
/-- The number of positions that mark `j` covers, as the kernel computes it. -/
def covers (x : Fin 8192 → EReal) (u : EReal) (j : Fin 8192) : EReal :=
  min many (max 0 (Ideal.liftRound Int.floor (mark x j * many)
    + if Ideal.liftRound Int.floor (mark x j * many) + u ≤ mark x j * many then 1 else 0))
/-- The number of positions between the mark before `j` and mark `j`. -/
def draws (x : Fin 8192 → EReal) (u : EReal) (j : Fin 8192) : EReal := covers x u j - moved 1 (covers x u) j
/-- The kernel's weight of particle `j`. -/
def mass (x : Fin 8192 → EReal) (u : EReal) (W : Fin 64 → Fin 256 → EReal) (w : Fin 256 → EReal) (p : Fin 8192 → Fin 64 → EReal) (j : Fin 8192) : EReal :=
  draws x u j * weight x j * Ideal.exp (score W w (p j))
/-- The kernel's row: particles weighted by mass, over the total mass. -/
def kernelRow (x : Fin 8192 → EReal) (u : EReal) (W : Fin 64 → Fin 256 → EReal) (w : Fin 256 → EReal) (p : Fin 8192 → Fin 64 → EReal) (d : Fin 64) : EReal :=
  Ideal.div (∑ j, mass x u W w p j * p j d) (∑ j, mass x u W w p j)
/-- The reference's log-weight of a drawn particle. -/
def logw (x : Fin 8192 → EReal) (W : Fin 64 → Fin 256 → EReal) (w : Fin 256 → EReal) (p : Fin 8192 → Fin 64 → EReal) (j : Fin 8192) : EReal :=
  Ideal.log (weight x j) + score W w (p j)
/-- The reference's row, when draw `i` chooses particle `idx i`. -/
def referenceRow (x : Fin 8192 → EReal) (W : Fin 64 → Fin 256 → EReal) (w : Fin 256 → EReal) (p : Fin 8192 → Fin 64 → EReal) (idx : Fin 8192 → Fin 8192) (d : Fin 64) : EReal :=
  ∑ i, Ideal.div (raw (fun k => logw x W w p (idx k)) i) (∑ k, raw (fun k => logw x W w p (idx k)) k) * p (idx i) d

/-- The constant the maximum starts from is the least extended real. -/
theorem lowest_eq : Ideal.ofBits .f32 0xFF800000#32 = (⊥ : EReal) := by
  simp [Ideal.ofBits, Ideal.ieee]

/-- A one-bit word made from a truth value is one exactly when the proposition holds. -/
theorem bit_iff (p : Prop) [Decidable p] : BitVec.ofBool (decide p) = 1#1 ↔ p := by
  by_cases h : p <;> simp [h]

end Cert.Row

end
-- ==== Proof.Precondition.lean ====
/- What the printed precondition says of the arguments: every offset is a number from zero to one, every row's largest
   log-weight is a number, and every head weight is a number. -/
module

public import proofs.«01_k».proof.Pre_proper_inputs
public import proofs.«01_k».proof.Proof.Row
public import Idealize.ShloMosaic.Lib.Affine
public import Idealize.ShloMosaic.Lib.ReduceAll
public import Idealize.ShloMosaic.Lib.Decide
public import Idealize.ShloMosaic.Lib.Pointwise

@[expose] public section

set_option maxRecDepth 16384

noncomputable section

namespace Cert.Proper

open Idealize.ShloMosaic Cert.Pre_proper_inputs

/-- The shape relations the printed precondition states hold. -/
theorem facts : Cert.Pre_proper_inputs.Facts where
  reducesTo_S128x8192_S128_d1 := by decide
  h_S_ := by decide
  bcast_S_S128x1 := by decide
  reducesTo_S128x1_S_d0_1 := by decide
  bcast_S_S128 := by decide
  reducesTo_S128_S_d0 := by decide
  bcast_S_S256 := by decide
  reducesTo_S256_S_d0 := by decide

/-- The constant the comparisons from above use is the greatest extended real. -/
theorem greatest_eq : Ideal.ofBits .f32 0x7F800000#32 = (⊤ : EReal) := by
  simp [Ideal.ofBits, Ideal.ieee]

/-- The constant one. -/
theorem one_eq : Ideal.ofBits .f32 0x3F800000#32 = (1 : EReal) := by
  show _ = ((1 : ℝ) : EReal)
  simp [Ideal.ofBits, Ideal.ieee, -EReal.coe_mul]; norm_num

/-- The constant zero. -/
theorem zero_eq : Ideal.ofBits .f32 0x00000000#32 = (0 : EReal) := by
  simp [Ideal.ofBits, Ideal.ieee]

variable [Facts] (p : FVec Ideal S128x8192x64 .f32) (x : FVec Ideal S128x8192 .f32) (u : FVec Ideal S128x1 .f32)
  (W : FVec Ideal S64x256 .f32) (w : FVec Ideal S256 .f32)

/-- The printed row maximum is the row's largest entry. -/
theorem top_apply (b : Fin 128) :
    Host.reduce FloatOps.maximumf x (constant S_ .f32 0xFF800000#32) Facts.reducesTo_S128x8192_S128_d1 Facts.h_S_ (ix1 b)
      = Cert.Row.top (fun l => x (ix2 b l)) := by
  pointwise
  rw [Cert.Row.lowest_eq]
  rfl

/-- Where a vector passes the two comparisons with the infinities, it is strictly between them. -/
theorem between {s : Shape} (h : S_.BroadcastsInDim s (![] : Fin 0 → Fin s.rank)) (v : FVec Ideal s .f32) (i : s.Idx)
    (e : andi (cmpf .ogt v (broadcastInDim s ![] h (constant S_ .f32 0xFF800000#32))) (cmpf .olt v (broadcastInDim s ![] h (constant S_ .f32 0x7F800000#32))) i = 1#1) :
    ⊥ < v i ∧ v i < ⊤ := by
  obtain ⟨h1, h2⟩ := IntOp.andi_eq_one.mp e
  have h1' : Ideal.ofBits .f32 0xFF800000#32 < v i := (Cert.Row.bit_iff _).mp h1
  have h2' : v i < Ideal.ofBits .f32 0x7F800000#32 := (Cert.Row.bit_iff _).mp h2
  rw [Cert.Row.lowest_eq] at h1'
  rw [greatest_eq] at h2'
  exact ⟨h1', h2'⟩

/-- Where the printed precondition is one, the arguments are proper. -/
theorem decoded (h : Cert.Pre_proper_inputs.fn (F := Ideal) p x u W w = fun _ => 1#1) :
    (∀ b : Fin 128, 0 ≤ u (ix2 b 0) ∧ u (ix2 b 0) ≤ 1)
    ∧ (∀ b : Fin 128, ⊥ < Cert.Row.top (fun l => x (ix2 b l)) ∧ Cert.Row.top (fun l => x (ix2 b l)) < ⊤)
    ∧ ∀ k : Fin 256, ⊥ < w (ix1 k) ∧ w (ix1 k) < ⊤ := by
  have e := congrFun h ix0
  dsimp only [Cert.Pre_proper_inputs.fn, Cert.Pre_proper_inputs.fn_part1] at e
  obtain ⟨e12, e3⟩ := IntOp.andi_eq_one.mp e
  obtain ⟨e1, e2⟩ := IntOp.andi_eq_one.mp e12
  refine ⟨fun b => ?_, fun b => ?_, fun k => ?_⟩
  · obtain ⟨h1, h2⟩ := IntOp.andi_eq_one.mp (Host.reduce_andi_all _ _ _ _ _ e1 (ix2 b 0))
    have h1' := (Cert.Row.bit_iff _).mp h1
    have h2' := (Cert.Row.bit_iff _).mp h2
    exact ⟨zero_eq ▸ h1', one_eq ▸ h2'⟩
  · rw [← top_apply]
    exact between Facts.bcast_S_S128 _ _ (Host.reduce_andi_all _ _ _ _ _ e2 (ix1 b))
  · exact between Facts.bcast_S_S256 _ _ (Host.reduce_andi_all _ _ _ _ _ e3 (ix1 k))

end Cert.Proper

end
-- ==== Proof.RowReal.lean ====
/- What one row's quantities are, as real numbers: under the stated conditions on the inputs each is a real, the weights are
   positive, and the kernel's differences of covered positions count the draws. -/
module

public import proofs.«01_k».proof.Proof.Row

@[expose] public section

set_option maxRecDepth 16384

noncomputable section

namespace Cert.Row

open Finset Idealize.ShloMosaic Cert.RunningSum Cert.RowEquation

/-! ## The constants -/

/-- The mixing constant is a real half. -/
theorem half_eq : half = (((1 : ℝ) / 2 : ℝ) : EReal) := by
  simp [half, Ideal.ofBits, Ideal.ieee, -EReal.coe_mul]; norm_num

/-- The uniform share is a positive real. -/
theorem share_eq : ∃ r : ℝ, 0 < r ∧ share = (r : EReal) := by
  refine ⟨1 / 16384, by norm_num, ?_⟩
  simp [share, Ideal.ofBits, Ideal.ieee, -EReal.coe_mul]; norm_num

/-- The small constant is a positive real. -/
theorem tiny_eq : ∃ r : ℝ, 0 < r ∧ tiny = (r : EReal) := by
  refine ⟨11258999 / 1125899906842624, by norm_num, ?_⟩
  simp [tiny, Ideal.ofBits, Ideal.ieee, -EReal.coe_mul]; norm_num

/-- The number of particles is the real 8192. -/
theorem many_eq : many = ((8192 : ℝ) : EReal) := by
  simp [many, Ideal.ofBits, Ideal.ieee, -EReal.coe_mul]; norm_num

/-! ## The softmax weights -/

/-- Every entry is at most the largest one. -/
theorem le_top (x : Fin 8192 → EReal) (j : Fin 8192) : x j ≤ top x :=
  (le_fold_max _).2 (Or.inr ⟨j, mem_univ j, le_rfl⟩)

/-- A finite largest entry is reached. -/
theorem top_reached (x : Fin 8192 → EReal) {m : ℝ} (hm : top x = (m : EReal)) : ∃ j, x j = (m : EReal) := by
  have h : (m : EReal) ≤ top x := hm.ge
  rcases (le_fold_max _).1 h with h | ⟨j, _, h⟩
  · exact absurd h (not_le.2 (EReal.bot_lt_coe m))
  · exact ⟨j, le_antisymm ((le_top x j).trans hm.le) h⟩

/-- Entries that are all real have a real largest entry. -/
theorem top_real (x : Fin 8192 → EReal) (r : Fin 8192 → ℝ) (hx : ∀ j, x j = (r j : EReal)) : ∃ m : ℝ, top x = (m : EReal) := by
  have h0 : (r 0 : EReal) ≤ top x := hx 0 ▸ le_top x 0
  have h1 : top x < ⊤ := (fold_max_lt _).2 ⟨bot_lt_top, fun j _ => hx j ▸ EReal.coe_lt_top _⟩
  exact ⟨(top x).toReal, (EReal.coe_toReal h1.ne (ne_bot_of_le_ne_bot (EReal.coe_ne_bot _) h0)).symm⟩

/-- With a finite largest log-weight the shifted exponentials are nonnegative reals, and their sum is positive. -/
theorem raw_real (x : Fin 8192 → EReal) {m : ℝ} (hm : top x = (m : EReal)) :
    ∃ e : Fin 8192 → ℝ, (∀ j, raw x j = (e j : EReal)) ∧ (∀ j, 0 ≤ e j) ∧ 0 < ∑ j, e j := by
  have hex : ∀ j, ∃ r : ℝ, raw x j = (r : EReal) ∧ 0 ≤ r ∧ (x j = (m : EReal) → 0 < r) := fun j => by
    unfold raw
    have hle := hm ▸ le_top x j
    rw [hm]
    induction h : x j using EReal.rec with
    | bot => exact ⟨0, by rw [EReal.bot_sub, Ideal.exp_bot, EReal.coe_zero], le_rfl, fun hb => absurd hb (EReal.bot_ne_coe m)⟩
    | top => rw [h] at hle; exact absurd hle (not_le.2 (EReal.coe_lt_top m))
    | coe a =>
      exact ⟨Real.exp (a - m), by rw [← EReal.coe_sub, Ideal.exp_coe], (Real.exp_pos _).le, fun _ => Real.exp_pos _⟩
  choose e he hnn hpos using hex
  obtain ⟨j, hj⟩ := top_reached x hm
  exact ⟨e, he, hnn, sum_pos' (fun i _ => hnn i) ⟨j, mem_univ j, hpos j hj⟩⟩

/-- When the entries are real their shifted exponentials are `exp (r j - m)`. -/
theorem raw_of_real (x : Fin 8192 → EReal) (r : Fin 8192 → ℝ) (hx : ∀ j, x j = (r j : EReal)) {m : ℝ} (hm : top x = (m : EReal)) (j : Fin 8192) :
    raw x j = ((Real.exp (r j - m) : ℝ) : EReal) := by
  unfold raw
  rw [hm, hx, ← EReal.coe_sub, Ideal.exp_coe]

/-- The mixed weights are positive reals, and the importance weights are too. -/
theorem weights_real (x : Fin 8192 → EReal) {m : ℝ} (hm : top x = (m : EReal)) :
    ∃ s v : Fin 8192 → ℝ, (∀ j, soft x j = (s j : EReal)) ∧ (∀ j, 0 < s j) ∧ (∀ j, weight x j = (v j : EReal)) ∧ ∀ j, 0 < v j := by
  obtain ⟨e, he, hnn, hsum⟩ := raw_real x hm
  obtain ⟨c, hc, hce⟩ := share_eq
  obtain ⟨t, ht, hte⟩ := tiny_eq
  obtain ⟨S, hS⟩ : ∃ S : ℝ, ∑ j, e j = S := ⟨_, rfl⟩
  rw [hS] at hsum
  have hp : ∀ j, prob x j = ((e j * S⁻¹ : ℝ) : EReal) := fun j => by
    unfold prob
    rw [he, sum_congr rfl fun l _ => he l, ← coe_sum, hS, div_by_pos hsum, EReal.coe_mul]
  have hpn : ∀ j, 0 ≤ e j * S⁻¹ := fun j => mul_nonneg (hnn j) (inv_nonneg.2 hsum.le)
  have hs : ∀ j, soft x j = ((1 / 2 * (e j * S⁻¹) + c : ℝ) : EReal) := fun j => by
    unfold soft
    rw [hp, half_eq, hce, ← EReal.coe_mul, ← EReal.coe_add]
  have hsp : ∀ j, 0 < 1 / 2 * (e j * S⁻¹) + c := fun j => by have := hpn j; positivity
  refine ⟨_, fun j => e j * S⁻¹ * (1 / 2 * (e j * S⁻¹) + c + t)⁻¹ + t, hs, hsp, fun j => ?_, fun j => ?_⟩
  · unfold weight
    rw [hp, hs, hte, ← EReal.coe_add, div_by_pos (add_pos (hsp j) ht), ← EReal.coe_mul, ← EReal.coe_add]
  · exact add_pos_of_nonneg_of_pos (mul_nonneg (hpn j) (inv_nonneg.2 (add_pos (hsp j) ht).le)) ht

/-- The marks are reals between 0 and 1, increasing, and the last is 1. -/
theorem marks_real (x : Fin 8192 → EReal) {m : ℝ} (hm : top x = (m : EReal)) :
    ∃ c : Fin 8192 → ℝ, (∀ j, mark x j = (c j : EReal)) ∧ Monotone c ∧ (∀ j, 0 ≤ c j) ∧ (∀ j, c j ≤ 1) ∧ c ⟨8191, by omega⟩ = 1 := by
  obtain ⟨s, v, hs, hsp, -, -⟩ := weights_real x hm
  have hup : ∀ j, upTo (soft x) j = ((upTo s j : ℝ) : EReal) := fun j => by
    unfold upTo
    rw [coe_sum]
    exact sum_congr rfl fun l _ => hs l
  have hmono : Monotone (upTo s) := fun a b hab => by
    unfold upTo
    exact sum_le_sum_of_subset_of_nonneg
      (fun l hl => by rw [mem_filter] at hl ⊢; exact ⟨hl.1, hl.2.trans hab⟩) fun l _ _ => (hsp l).le
  have hnn : ∀ j, 0 ≤ upTo s j := fun j => sum_nonneg fun l _ => (hsp l).le
  have hpos : 0 < upTo s ⟨8191, by omega⟩ :=
    (hsp 0).trans_le (single_le_sum (f := s) (fun l _ => (hsp l).le) (by rw [mem_filter, Fin.le_def]; exact ⟨mem_univ _, Nat.zero_le _⟩))
  have hinv := inv_nonneg.2 hpos.le
  have hlast : ∀ j : Fin 8192, j ≤ ⟨8191, by omega⟩ := fun j => by rw [Fin.le_def]; have := j.isLt; show j.val ≤ 8191; omega
  refine ⟨fun j => upTo s j * (upTo s ⟨8191, by omega⟩)⁻¹, fun j => ?_, fun a b hab => mul_le_mul_of_nonneg_right (hmono hab) hinv,
    fun j => mul_nonneg (hnn j) hinv, fun j => ?_, mul_inv_cancel₀ hpos.ne'⟩
  · unfold mark
    rw [hup, hup, div_by_pos hpos, EReal.coe_mul]
  · rw [← mul_inv_cancel₀ hpos.ne']
    exact mul_le_mul_of_nonneg_right (hmono (hlast j)) hinv

/-! ## The score -/

/-- The hyperbolic tangent is always a real. -/
theorem tanh_real (z : EReal) : ∃ r : ℝ, Ideal.tanh z = (r : EReal) := by
  induction z using EReal.rec with
  | bot => exact ⟨-1, by simp⟩
  | top => exact ⟨1, by simp⟩
  | coe a => exact ⟨_, Ideal.tanh_coe a⟩

/-- With finite head weights every score is a real. -/
theorem score_real (W : Fin 64 → Fin 256 → EReal) (w : Fin 256 → EReal) (hw : ∀ h, ⊥ < w h ∧ w h < ⊤) (q : Fin 64 → EReal) :
    ∃ r : ℝ, score W w q = (r : EReal) := by
  choose T hT using fun h => tanh_real (∑ d, q d * W d h)
  refine ⟨∑ h, T h * (w h).toReal, ?_⟩
  unfold score
  rw [coe_sum]
  refine sum_congr rfl fun h _ => ?_
  rw [hT, EReal.coe_mul, EReal.coe_toReal (hw h).2.ne (hw h).1.ne']

/-! ## Counting -/

/-- With an offset `u` in [0, 1], position `i` is the real `(i + u) / 8192`. -/
theorem pos_real {u : ℝ} (i : Fin 8192) : pos (u : EReal) i = (((i.val + u) * (8192 : ℝ)⁻¹ : ℝ) : EReal) := by
  unfold pos
  rw [many_eq, ← EReal.coe_add, div_by_pos (show (0 : ℝ) < 8192 by norm_num), ← EReal.coe_mul]

/-- The kernel's number of covered positions is the number of positions that do not exceed the mark. -/
theorem covers_real (x : Fin 8192 → EReal) {u : ℝ} (hu0 : 0 ≤ u) (hu1 : u ≤ 1) (c : Fin 8192 → ℝ) (hc : ∀ j, mark x j = (c j : EReal))
    (hc0 : ∀ j, 0 ≤ c j) (hc1 : ∀ j, c j ≤ 1) (j : Fin 8192) :
    covers x (u : EReal) j
      = (((univ.filter fun i : Fin 8192 => (i.val + u) * (8192 : ℝ)⁻¹ ≤ c j).card : ℝ) : EReal) := by
  have hiff : ∀ i : Fin 8192, (i.val : ℝ) + u ≤ c j * 8192 ↔ (i.val + u) * (8192 : ℝ)⁻¹ ≤ c j := fun i => by
    rw [← div_eq_mul_inv, div_le_iff₀ (by norm_num)]
  rw [← filter_congr fun i _ => hiff i,
    ← Cert.Counting.card_positions 8192 hu0 hu1 (mul_nonneg (hc0 j) (by norm_num)) (by have := hc1 j; push_cast; linarith)]
  unfold covers
  rw [hc, many_eq, ← EReal.coe_mul, Ideal.liftRound_coe, ← EReal.coe_add, min_comm, max_comm,
    EReal.coe_strictMono.monotone.map_min, EReal.coe_strictMono.monotone.map_max, EReal.coe_add]
  have hcast : ((8192 : ℕ) : ℝ) = 8192 := by norm_num
  have hif : (if ((⌊c j * 8192⌋ : ℝ) : EReal) + (u : EReal) ≤ ((c j * 8192 : ℝ) : EReal) then (1 : EReal) else 0)
      = ((if (⌊c j * 8192⌋ : ℝ) + u ≤ c j * 8192 then 1 else 0 : ℝ) : EReal) := by
    rw [← EReal.coe_add, ite_cond_congr (propext EReal.coe_le_coe_iff)]
    split_ifs <;> simp
  rw [hif, hcast, EReal.coe_zero, ← EReal.coe_add]

/-- No position has all the marks below it. -/
theorem below_lt (x : Fin 8192 → EReal) {m : ℝ} (hm : top x = (m : EReal)) {u : ℝ} (hu1 : u ≤ 1) (i : Fin 8192) :
    below x (u : EReal) i < 8192 := by
  obtain ⟨c, hc, hmono, -, -, hl⟩ := marks_real x hm
  have h : below x (u : EReal) i ≤ 8191 := by
    unfold below
    rw [filter_congr fun l _ => by rw [hc, pos_real, EReal.coe_lt_coe_iff]]
    refine (Cert.Counting.card_below_le_iff c hmono _ ⟨8191, by omega⟩).2 ?_
    rw [hl, ← div_eq_mul_inv, div_le_one (by norm_num)]
    have : (i.val : ℝ) ≤ 8191 := by exact_mod_cast Nat.le_of_lt_succ i.isLt
    linarith
  omega

/-- The kernel's difference of covered positions at `j` is the number of positions with exactly `j` marks below them. -/
theorem draws_real (x : Fin 8192 → EReal) {m : ℝ} (hm : top x = (m : EReal)) {u : ℝ} (hu0 : 0 ≤ u) (hu1 : u ≤ 1)
    (idx : Fin 8192 → Fin 8192) (hidx : ∀ i, (idx i).val = below x (u : EReal) i) (j : Fin 8192) :
    draws x (u : EReal) j = ((times idx j : ℝ) : EReal) := by
  obtain ⟨c, hc, hmono, hc0, hc1, -⟩ := marks_real x hm
  have hcov := covers_real x hu0 hu1 c hc hc0 hc1
  unfold draws moved times
  rw [← Cert.Counting.card_sent c (fun i => (i.val + u) * (8192 : ℝ)⁻¹) hmono idx fun i => by
    rw [hidx]
    unfold below
    rw [filter_congr fun l _ => by rw [hc, pos_real, EReal.coe_lt_coe_iff]], EReal.coe_sub, hcov]
  congr 1
  split_ifs with h
  · rw [EReal.coe_zero]
  · rw [hcov]

/-! ## The two rows agree -/

/-- The kernel's row is the reference's row, when draw `i` chooses the particle numbered by the marks below position `i`. -/
theorem rows_agree (x : Fin 8192 → EReal) {m : ℝ} (hm : top x = (m : EReal)) {u : ℝ} (hu0 : 0 ≤ u) (hu1 : u ≤ 1)
    (W : Fin 64 → Fin 256 → EReal) (w : Fin 256 → EReal) (hw : ∀ h, ⊥ < w h ∧ w h < ⊤) (p : Fin 8192 → Fin 64 → EReal)
    (idx : Fin 8192 → Fin 8192) (hidx : ∀ i, (idx i).val = below x (u : EReal) i) (d : Fin 64) :
    kernelRow x (u : EReal) W w p d = referenceRow x W w p idx d := by
  obtain ⟨s, v, -, -, hv, hvp⟩ := weights_real x hm
  choose l hl using fun j => score_real W w hw (p j)
  have hmass : ∀ j, mass x (u : EReal) W w p j = ((times idx j * v j * Real.exp (l j) : ℝ) : EReal) := fun j => by
    unfold mass
    rw [draws_real x hm hu0 hu1 idx hidx, hv, hl, Ideal.exp_coe, ← EReal.coe_mul, ← EReal.coe_mul]
  have hlogw : ∀ j, logw x W w p j = ((Real.log (v j) + l j : ℝ) : EReal) := fun j => by
    unfold logw
    rw [hv, hl, Ideal.log_coe, if_neg (not_le.2 (hvp j)), ← EReal.coe_add]
  have hk : ∀ k, logw x W w p (idx k) = ((Real.log (v (idx k)) + l (idx k) : ℝ) : EReal) := fun k => hlogw (idx k)
  obtain ⟨M, hM⟩ := top_real (fun k => logw x W w p (idx k)) (fun k => Real.log (v (idx k)) + l (idx k)) hk
  have hraw := raw_of_real (fun k => logw x W w p (idx k)) (fun k => Real.log (v (idx k)) + l (idx k)) hk hM
  unfold kernelRow referenceRow
  rw [sum_congr rfl fun j _ => by rw [hmass j], sum_congr rfl fun j _ => hmass j, ← coe_sum,
    row_equation (by norm_num) idx v l hvp (fun j => p j d) M]
  refine sum_congr rfl fun i _ => ?_
  rw [hraw i, sum_congr rfl fun k _ => hraw k, ← coe_sum]

end Cert.Row

end
-- ==== Proof.KernelMarks.lean ====
/- The kernel's marks and counts: the running sum by doubling, and the number of draws per particle, read at an index. -/
module

public import proofs.«01_k».proof.Proof.Gen.KernelIdeal.Frame
public import proofs.«01_k».proof.Proof.Row

@[expose] public section

set_option maxRecDepth 16384

noncomputable section

namespace Cert.KernelIdeal.Block

open Idealize.ShloMosaic Cert.KernelIdeal Cert.KernelIdeal.Gen Cert.RunningSum Finset

/-- A row vector added to itself moved `d` places to the right, zeros coming in. -/
def doubled {d e : ℕ} (x : FVec Ideal ⟨2, ![1, 8192]⟩ .f32) (hs : Shape.Slices ⟨2, ![1, 8192]⟩ ![0, 0] ⟨2, ![1, e]⟩)
    (hc : Shape.Concatenates [⟨2, ![1, d]⟩, ⟨2, ![1, e]⟩] ⟨2, ![1, 8192]⟩ 1) : FVec Ideal ⟨2, ![1, 8192]⟩ .f32 :=
  addf x (concatenate ⟨2, ![1, 8192]⟩ 1 [⟨⟨2, ![1, d]⟩, broadcast ⟨2, ![1, d]⟩ (Scalar.ofBits .f32 0x00000000#32)⟩,
    ⟨⟨2, ![1, e]⟩, extractStridedSlice ⟨2, ![1, e]⟩ ![0, 0] x hs⟩] hc)

/-- If a row vector holds the sums of the last `d` entries, doubling it gives the sums of the last `d + d` entries. -/
theorem doubled_apply {d e : ℕ} (hde : d + e = 8192) (a : Fin 8192 → EReal) (x : FVec Ideal ⟨2, ![1, 8192]⟩ .f32)
    (hs : Shape.Slices ⟨2, ![1, 8192]⟩ ![0, 0] ⟨2, ![1, e]⟩)
    (hc : Shape.Concatenates [⟨2, ![1, d]⟩, ⟨2, ![1, e]⟩] ⟨2, ![1, 8192]⟩ 1)
    (hx : ∀ j : Fin 8192, x (ix2 0 j) = stretch a d j) (j : Fin 8192) : doubled x hs hc (ix2 0 j) = stretch a (d + d) j := by
  rw [← stretch_add, ← hx j]
  pointwise [doubled]
  unfold moved
  split_ifs with h
  · rfl
  · exact congrArg (x (ix2 0 j) + ·) (hx ⟨j.val - d, by omega⟩)

/-- How many positions each mark covers, from the unnormalized running sums `C`. -/
def edge (u : FVec Ideal S1x1 .f32) (C : FVec Ideal S1x8192 .f32) : FVec Ideal S1x8192 .f32 :=
  have t : FVec Ideal S1x8192 .f32 := mulf (divf C (broadcastTo S1x8192 (extractStridedSlice S1x1 ![0, 8191] C slices_S1x8192_o0_8191_S1x1) broadcasts_S1x1_S1x8192))
    (broadcast S1x8192 (Scalar.ofBits .f32 0x46000000#32))
  minimumf (broadcast S1x8192 (Scalar.ofBits .f32 0x46000000#32)) (maximumf (broadcast S1x8192 (Scalar.ofBits .f32 0x00000000#32))
    (addf (floor t) (select (cmpf .ole (addf (floor t) (broadcastTo S1x8192 u broadcasts_S1x1_S1x8192)) t)
      (broadcast S1x8192 (Scalar.ofBits .f32 0x3F800000#32)) (broadcast S1x8192 (Scalar.ofBits .f32 0x00000000#32)))))

/-- Read at an index, the kernel's number of covered positions is the row's. -/
theorem edge_apply (u : FVec Ideal S1x1 .f32) (C : FVec Ideal S1x8192 .f32) (x : Fin 8192 → EReal)
    (hC : ∀ j : Fin 8192, C (ix2 0 j) = upTo (Cert.Row.soft x) j) (j : Fin 8192) :
    edge u C (ix2 0 j) = Cert.Row.covers x (u (ix2 0 0)) j := by
  pointwise [edge]
  rw [hC, hC]
  rfl

/-- The kernel's softmax weights, read at an index. -/
theorem pay3_apply (x0 : Vec Ideal S1x1x8192 .f32) (j : Fin 8192) :
    k0_pay3 x0 (ix2 0 j) = Cert.Row.prob (fun l => x0 (ix3 0 0 l)) j := by
  pointwise [k0_pay3]
  rw [Cert.Row.lowest_eq]
  rfl

/-- The kernel's mixed weights, read at an index. -/
theorem pay4_apply (x0 : Vec Ideal S1x1x8192 .f32) (j : Fin 8192) :
    k0_pay4 x0 (ix2 0 j) = Cert.Row.soft (fun l => x0 (ix3 0 0 l)) j := by
  pointwise [k0_pay4]
  rw [pay3_apply]
  rfl

/-- The running sum's first six doublings. -/
theorem pay5_eq (x0 : Vec Ideal S1x1x8192 .f32) :
    k0_pay5 x0 = doubled (d := 32) (doubled (d := 16) (doubled (d := 8) (doubled (d := 4) (doubled (d := 2) (doubled (d := 1) (k0_pay4 x0)
      slices_S1x8192_o0_0_S1x8191 concatenates_S1x1_S1x8191_S1x8192_d1)
      slices_S1x8192_o0_0_S1x8190 concatenates_S1x2_S1x8190_S1x8192_d1)
      slices_S1x8192_o0_0_S1x8188 concatenates_S1x4_S1x8188_S1x8192_d1)
      slices_S1x8192_o0_0_S1x8184 concatenates_S1x8_S1x8184_S1x8192_d1)
      slices_S1x8192_o0_0_S1x8176 concatenates_S1x16_S1x8176_S1x8192_d1)
      slices_S1x8192_o0_0_S1x8160 concatenates_S1x32_S1x8160_S1x8192_d1 := rfl

/-- The running sum's other seven doublings. -/
def late (y : FVec Ideal S1x8192 .f32) : FVec Ideal S1x8192 .f32 :=
  doubled (d := 4096) (doubled (d := 2048) (doubled (d := 1024) (doubled (d := 512) (doubled (d := 256) (doubled (d := 128) (doubled (d := 64) y
    slices_S1x8192_o0_0_S1x8128 concatenates_S1x64_S1x8128_S1x8192_d1)
    slices_S1x8192_o0_0_S1x8064 concatenates_S1x128_S1x8064_S1x8192_d1)
    slices_S1x8192_o0_0_S1x7936 concatenates_S1x256_S1x7936_S1x8192_d1)
    slices_S1x8192_o0_0_S1x7680 concatenates_S1x512_S1x7680_S1x8192_d1)
    slices_S1x8192_o0_0_S1x7168 concatenates_S1x1024_S1x7168_S1x8192_d1)
    slices_S1x8192_o0_0_S1x6144 concatenates_S1x2048_S1x6144_S1x8192_d1)
    slices_S1x8192_o0_0_S1x4096 concatenates_S1x4096_S1x4096_S1x8192_d1

/-- A row vector less itself moved one place to the right, a zero coming in. -/
def differences (g : FVec Ideal S1x8192 .f32) : FVec Ideal S1x8192 .f32 :=
  subf g (concatenate S1x8192 1 [⟨S1x1, broadcast S1x1 (Scalar.ofBits .f32 0x00000000#32)⟩,
    ⟨S1x8191, extractStridedSlice S1x8191 ![0, 0] g slices_S1x8192_o0_0_S1x8191⟩] concatenates_S1x1_S1x8191_S1x8192_d1)

/-- The kernel's counts are the differences of the covered positions, taken from the finished running sum. -/
theorem pay7_eq (u : FVec Ideal S1x1 .f32) (y : FVec Ideal S1x8192 .f32) :
    k0_pay7 u y (k0_pay6 (F := Ideal)) = differences (edge u (late y)) := rfl

/-- The differences read at an index. -/
theorem differences_apply (g : FVec Ideal S1x8192 .f32) (a : Fin 8192 → EReal) (hg : ∀ j : Fin 8192, g (ix2 0 j) = a j) (j : Fin 8192) :
    differences g (ix2 0 j) = a j - moved 1 a j := by
  rw [← hg j]
  pointwise [differences]
  unfold moved
  split_ifs with h h'
  · rfl
  · exact congrArg (g (ix2 0 j) - ·) (hg ⟨j.val - 1, by omega⟩)
  · exact absurd rfl h'

/-- After the first six doublings every entry is the sum of the last 64 mixed weights. -/
theorem pay5_apply (x0 : Vec Ideal S1x1x8192 .f32) (j : Fin 8192) :
    k0_pay5 x0 (ix2 0 j) = stretch (Cert.Row.soft fun l => x0 (ix3 0 0 l)) 64 j := by
  rw [pay5_eq]
  refine doubled_apply (d := 32) rfl _ _ _ _ ?_ j
  refine doubled_apply (d := 16) rfl _ _ _ _ ?_
  refine doubled_apply (d := 8) rfl _ _ _ _ ?_
  refine doubled_apply (d := 4) rfl _ _ _ _ ?_
  refine doubled_apply (d := 2) rfl _ _ _ _ ?_
  refine doubled_apply (d := 1) rfl _ _ _ _ fun j => ?_
  rw [pay4_apply, stretch_one]

/-- After the other seven every entry is the whole sum up to it. -/
theorem late_apply (y : FVec Ideal S1x8192 .f32) (a : Fin 8192 → EReal) (hy : ∀ j : Fin 8192, y (ix2 0 j) = stretch a 64 j) (j : Fin 8192) :
    late y (ix2 0 j) = upTo a j := by
  rw [← stretch_all a 8192 le_rfl]
  unfold late
  refine doubled_apply (d := 4096) rfl _ _ _ _ ?_ j
  refine doubled_apply (d := 2048) rfl _ _ _ _ ?_
  refine doubled_apply (d := 1024) rfl _ _ _ _ ?_
  refine doubled_apply (d := 512) rfl _ _ _ _ ?_
  refine doubled_apply (d := 256) rfl _ _ _ _ ?_
  refine doubled_apply (d := 128) rfl _ _ _ _ ?_
  exact doubled_apply (d := 64) rfl _ _ _ _ hy

/-- The kernel's counts, read at an index, are the row's draws. -/
theorem counts_apply (x0 : Vec Ideal S1x1x8192 .f32) (x1 : Vec Ideal S1x1x1 .f32) (j : Fin 8192) :
    k0_pay7 (k0_pay2 x1) (k0_pay5 x0) (k0_pay6 (F := Ideal)) (ix2 0 j)
      = Cert.Row.draws (fun l => x0 (ix3 0 0 l)) (x1 (ix3 0 0 0)) j := by
  rw [pay7_eq]
  have hu : k0_pay2 x1 (ix2 0 0) = x1 (ix3 0 0 0) := by pointwise [k0_pay2]
  refine differences_apply _ _ (fun j => ?_) j
  rw [← hu]
  exact edge_apply _ _ _ (late_apply _ _ (pay5_apply x0)) j

end Cert.KernelIdeal.Block

end
-- ==== Proof.KernelBlock.lean ====
/- What one run of the kernel body leaves in its output block: the row of the resampling step, read at an index. -/
module

public import proofs.«01_k».proof.Proof.KernelMarks

@[expose] public section

set_option maxRecDepth 16384

noncomputable section

namespace Cert.KernelIdeal.Block

open Idealize.ShloMosaic Cert.KernelIdeal Cert.KernelIdeal.Gen Cert.RunningSum Finset

/-- A sum over all particles is the sum over the first half and the sum over the second. -/
theorem sum_halves (f : Fin 8192 → EReal) :
    ∑ j, f j = ∑ r : Fin 4096, f ⟨r.val, by omega⟩ + ∑ r : Fin 4096, f ⟨4096 + r.val, by omega⟩ :=
  Fin.sum_univ_add (a := 4096) (b := 4096) f

/-- The score as the kernel multiplies it out, the factors in its order. -/
theorem score_eq (x3 : Vec Ideal S256x64 .f32) (x4 : Vec Ideal S1x256 .f32) (q : Fin 64 → EReal) :
    ∑ h : Fin 256, x4 (ix2 0 h) * Ideal.tanh (∑ d : Fin 64, x3 (ix2 h d) * q d)
      = Cert.Row.score (fun d h => x3 (ix2 h d)) (fun h => x4 (ix2 0 h)) q := by
  unfold Cert.Row.score
  refine sum_congr rfl fun h _ => ?_
  rw [mul_comm, sum_congr rfl fun d _ => mul_comm (x3 (ix2 h d)) (q d)]

/-- The weight vector: counts times importance weights. -/
theorem pay8_apply (v12 v16 v89 : FVec Ideal S1x8192 .f32) (j : Fin 8192) :
    k0_pay8 v12 v16 v89 (ix2 0 j) = v89 (ix2 0 j) * (Ideal.div (v12 (ix2 0 j)) (v16 (ix2 0 j) + Cert.Row.tiny) + Cert.Row.tiny) := by
  pointwise [k0_pay8]

/-- The masses of the first half's particles. -/
theorem pay11_apply (v12 v16 v89 : FVec Ideal S1x8192 .f32) (x3 : Vec Ideal S256x64 .f32) (y : Vec Ideal S1x4096x64 .f32) (x4 : Vec Ideal S1x256 .f32) (r : Fin 4096) :
    k0_pay11 v12 v16 v89 x3 y x4 (ix2 0 r) = k0_pay8 v12 v16 v89 (ix2 0 ⟨r.val, by omega⟩)
      * Ideal.exp (Cert.Row.score (fun d h => x3 (ix2 h d)) (fun h => x4 (ix2 0 h)) fun d => y (ix3 0 r d)) := by
  rw [← score_eq]
  pointwise [k0_pay11, k0_pay9, k0_pay10]

/-- The first half's weighted sum of particles. -/
theorem pay12_apply (v12 v16 v89 : FVec Ideal S1x8192 .f32) (x3 : Vec Ideal S256x64 .f32) (y : Vec Ideal S1x4096x64 .f32) (x4 : Vec Ideal S1x256 .f32) (d : Fin 64) :
    k0_pay12 v12 v16 v89 x3 y x4 (ix2 0 d) = ∑ r : Fin 4096, k0_pay11 v12 v16 v89 x3 y x4 (ix2 0 r) * y (ix3 0 r d) := by
  pointwise [k0_pay12, k0_pay10]

/-- The first half's total mass. -/
theorem pay13_apply (v12 v16 v89 : FVec Ideal S1x8192 .f32) (x3 : Vec Ideal S256x64 .f32) (y : Vec Ideal S1x4096x64 .f32) (x4 : Vec Ideal S1x256 .f32) :
    k0_pay13 v12 v16 v89 x3 y x4 (ix2 0 0) = ∑ r : Fin 4096, k0_pay11 v12 v16 v89 x3 y x4 (ix2 0 r) := by
  pointwise [k0_pay13]

/-- The stored quotient: both halves' weighted sums over both halves' masses. -/
theorem pay1_apply (v95 : FVec Ideal S1x8192 .f32) (v115 : FVec Ideal S1x64 .f32) (v118 : FVec Ideal S1x1 .f32) (z : Vec Ideal S1x4096x64 .f32) (x3 : Vec Ideal S256x64 .f32) (x4 : Vec Ideal S1x256 .f32) (d : Fin 64) :
    k0_pay1 v95 v115 v118 (k0_pay14 z) (k0_pay15 x3 z) (k0_pay16 x4) (constant S1x4096 .f32 0x00000000#32) (ix3 0 0 d)
      = Ideal.div
          (v115 (ix2 0 d) + ∑ r : Fin 4096, v95 (ix2 0 ⟨4096 + r.val, by omega⟩)
            * Ideal.exp (Cert.Row.score (fun d h => x3 (ix2 h d)) (fun h => x4 (ix2 0 h)) fun d => z (ix3 0 r d)) * z (ix3 0 r d))
          (v118 (ix2 0 0) + ∑ r : Fin 4096, v95 (ix2 0 ⟨4096 + r.val, by omega⟩)
            * Ideal.exp (Cert.Row.score (fun d h => x3 (ix2 h d)) (fun h => x4 (ix2 0 h)) fun d => z (ix3 0 r d))) := by
  simp only [← score_eq]
  pointwise [k0_pay1, k0_pay14, k0_pay15, k0_pay16, k0_pay9]

/-- The first half of the particles, as loaded. -/
theorem load_first (x2 : Vec Ideal S1x8192x64 .f32) (r : Fin 4096) (d : Fin 64) :
    View.ld x2 r0_3 (ix3 0 r d) = x2 (ix3 0 ⟨r.val, by omega⟩ d) := by
  pointwise

/-- The second half of the particles, as loaded. -/
theorem load_second (x2 : Vec Ideal S1x8192x64 .f32) (r : Fin 4096) (d : Fin 64) :
    View.ld x2 r0_5 (ix3 0 r d) = x2 (ix3 0 ⟨4096 + r.val, by omega⟩ d) := by
  pointwise

/-- The output block of the body, read at an index, is the kernel's row of the input blocks. -/
theorem block_apply (x0 : Vec Ideal S1x1x8192 .f32) (x1 : Vec Ideal S1x1x1 .f32) (x2 : Vec Ideal S1x8192x64 .f32) (x3 : Vec Ideal S256x64 .f32) (x4 : Vec Ideal S1x256 .f32) (d : Fin 64) :
    out0_5 x0 x1 x2 x3 x4 (ix3 0 0 d)
      = Cert.Row.kernelRow (fun l => x0 (ix3 0 0 l)) (x1 (ix3 0 0 0)) (fun d h => x3 (ix2 h d)) (fun h => x4 (ix2 0 h)) (fun j d => x2 (ix3 0 j d)) d := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_5 k0_pay19 k0_pay18 k0_pay17
  rw [View.canon_unit_zero hz3, View.ld_unit_zero hz3, View.ld_unit_zero hz3, View.ld_unit_zero hz2, View.ld_unit_zero hz2,
    pay1_apply, pay12_apply, pay13_apply]
  have h8 : ∀ j : Fin 8192, k0_pay8 (k0_pay3 x0) (k0_pay4 x0) (k0_pay7 (k0_pay2 x1) (k0_pay5 x0) (k0_pay6 (F := Ideal))) (ix2 0 j)
      = Cert.Row.draws (fun l => x0 (ix3 0 0 l)) (x1 (ix3 0 0 0)) j * Cert.Row.weight (fun l => x0 (ix3 0 0 l)) j := fun j => by
    rw [pay8_apply, counts_apply, pay3_apply, pay4_apply]
    rfl
  have hy : ∀ r d, View.ld x2 r0_3 (ix3 0 r d) = x2 (ix3 0 ⟨r.val, by omega⟩ d) := load_first x2
  have hz : ∀ r d, View.ld x2 r0_5 (ix3 0 r d) = x2 (ix3 0 ⟨4096 + r.val, by omega⟩ d) := load_second x2
  generalize View.ld x2 r0_3 = y at hy ⊢
  generalize View.ld x2 r0_5 = z at hz ⊢
  simp only [pay11_apply, h8, hy, hz]
  unfold Cert.Row.kernelRow
  rw [sum_halves, sum_halves]
  rfl

end Cert.KernelIdeal.Block

end
-- ==== Proof.KernelArray.lean ====
/- What the kernel's result array holds: at every row the kernel's row of the argument arrays, and the run that says so. -/
module

public import proofs.«01_k».proof.Proof.KernelBlock
public import Idealize.ShloMosaic.Lib.Pipeline.Value
public import Idealize.ShloMosaic.Lib.Pipeline.ValueKit
public import Idealize.ShloMosaic.Lib.StableHlo.Run
public import Idealize.ShloMosaic.Lib.Tactic.CleanTypes

@[expose] public section

set_option maxRecDepth 16384

noncomputable section

namespace Cert.KernelIdeal.Whole

open Idealize.ShloMosaic Idealize.ShloMosaic.TcCoe Idealize.SL.Sem Cert.KernelIdeal Cert.KernelIdeal.Gen Finset
open Idealize.ShloMosaic.Pipeline (Dat)

variable (m : (ℓ : Loc nD τ sig) → Buf (Elt Ideal) ℓ) (ρ : Dev nD → PrngReg)

/-- Device `c`'s log-weights, entry by entry. -/
abbrev logs (c : Dev nD) (b : Fin 128) (l : Fin 8192) : EReal := m ((c : Thread nD τ).loc main_arg1) (ix2 b l)
/-- Device `c`'s offsets. -/
abbrev offs (c : Dev nD) (b : Fin 128) : EReal := m ((c : Thread nD τ).loc main_arg2) (ix2 b 0)
/-- Device `c`'s particles. -/
abbrev parts (c : Dev nD) (b : Fin 128) (j : Fin 8192) (d : Fin 64) : EReal := m ((c : Thread nD τ).loc main_arg0) (ix3 b j d)
/-- Device `c`'s first head matrix. -/
abbrev mat (c : Dev nD) (d : Fin 64) (h : Fin 256) : EReal := m ((c : Thread nD τ).loc main_arg3) (ix2 d h)
/-- Device `c`'s head weights. -/
abbrev head (c : Dev nD) (h : Fin 256) : EReal := m ((c : Thread nD τ).loc main_arg4) (ix1 h)

/-- The row the kernel is to leave for batch row `b`. -/
abbrev row (c : Dev nD) (b : Fin 128) (d : Fin 64) : EReal :=
  Cert.Row.kernelRow (logs m c b) (offs m c b) (mat m c) (head m c) (parts m c b) d

/-! ## The arrays the region finds -/

/-- The log-weights reach the region with a unit axis between batch row and particle. -/
theorem V_v0 (c : Dev nD) (b : Fin 128) (l : Fin 8192) : V m c main_v0 (ix3 b 0 l) = logs m c b l := by
  have h : V m c main_v0 = shapeCast S128x1x8192 (m ((c : Thread nD τ).loc main_arg1)) shapeCasts_S128x8192_S128x1x8192 := by
    show StableHlo.after [_, _, _, _] _ _ = _
    after_results
    rfl
  rw [h]
  clean_types
  pointwise

/-- The offsets reach the region with a further unit axis. -/
theorem V_v1 (c : Dev nD) (b : Fin 128) : V m c main_v1 (ix3 b 0 0) = offs m c b := by
  have h : V m c main_v1 = shapeCast S128x1x1 (m ((c : Thread nD τ).loc main_arg2)) shapeCasts_S128x1_S128x1x1 := by
    show StableHlo.after [_, _, _, _] _ _ = _
    after_results
    rfl
  rw [h]
  clean_types
  pointwise

/-- The first head matrix reaches the region transposed. -/
theorem V_v2 (c : Dev nD) (h : Fin 256) (d : Fin 64) : V m c main_v2 (ix2 h d) = mat m c d h := by
  have h : V m c main_v2 = transpose S256x64 [1, 0] (m ((c : Thread nD τ).loc main_arg3)) transposes_S64x256_S256x64_1_0 := by
    show StableHlo.after [_, _, _, _] _ _ = _
    after_results
  rw [h]
  clean_types
  pointwise

/-- The head weights reach the region as one row. -/
theorem V_v3 (c : Dev nD) (h : Fin 256) : V m c main_v3 (ix2 0 h) = head m c h := by
  have h : V m c main_v3 = shapeCast S1x256 (m ((c : Thread nD τ).loc main_arg4)) shapeCasts_S256_S1x256 := by
    show StableHlo.after [_, _, _, _] _ _ = _
    after_results
    rfl
  rw [h]
  clean_types
  pointwise

/-! ## The blocks at a grid point: batch row `t` of the three batched arrays, the two head arrays whole -/

/-- The log-weights' block at a grid point is that batch row. -/
theorem at0 : ∀ t : Fin cfg0.N, win0_0.index t = ![t.val, 0, 0] := (by decide +kernel : ∀ t : Fin grid0.N, _)
/-- The offsets' block at a grid point is that batch row. -/
theorem at1 : ∀ t : Fin cfg0.N, win0_1.index t = ![t.val, 0, 0] := (by decide +kernel : ∀ t : Fin grid0.N, _)
/-- The particles' block at a grid point is that batch row. -/
theorem at2 : ∀ t : Fin cfg0.N, win0_2.index t = ![t.val, 0, 0] := (by decide +kernel : ∀ t : Fin grid0.N, _)
/-- The head matrix is one block at every grid point. -/
theorem at3 : ∀ t : Fin cfg0.N, win0_3.index t = ![0, 0] := (by decide +kernel : ∀ t : Fin grid0.N, _)
/-- The head weights are one block at every grid point. -/
theorem at4 : ∀ t : Fin cfg0.N, win0_4.index t = ![0, 0] := (by decide +kernel : ∀ t : Fin grid0.N, _)
/-- The result's block at a grid point is that batch row. -/
theorem at5 : ∀ t : Fin cfg0.N, win0_5.index t = ![t.val, 0, 0] := (by decide +kernel : ∀ t : Fin grid0.N, _)

/-- The batch row of a grid point. -/
abbrev rowOf (t : Fin cfg0.N) : Fin 128 := ⟨t.val, N_0 ▸ t.isLt⟩

/-- The log-weights' block at a grid point, read at an entry. -/
theorem block0 (c : Dev nD) (t : Fin cfg0.N) (l : Fin 8192) : iblk m c 0 t (ix3 0 0 l) = logs m c (rowOf t) l := by
  rw [← V_v0]
  blk_simp [iblk]
  congr 1
  blk_ext [at0]

/-- The offsets' block at a grid point, read at its entry. -/
theorem block1 (c : Dev nD) (t : Fin cfg0.N) : iblk m c 1 t (ix3 0 0 0) = offs m c (rowOf t) := by
  rw [← V_v1]
  blk_simp [iblk]
  congr 1
  blk_ext [at1]

/-- The particles' block at a grid point, read at an entry. -/
theorem block2 (c : Dev nD) (t : Fin cfg0.N) (j : Fin 8192) (d : Fin 64) : iblk m c 2 t (ix3 0 j d) = parts m c (rowOf t) j d := by
  unfold parts
  rw [← V_main_arg0 m c]
  blk_simp [iblk]
  congr 1
  blk_ext [at2]

/-- The head matrix at a grid point, read at an entry. -/
theorem block3 (c : Dev nD) (t : Fin cfg0.N) (h : Fin 256) (d : Fin 64) : iblk m c 3 t (ix2 h d) = mat m c d h := by
  rw [← V_v2]
  blk_simp [iblk]
  congr 1
  blk_ext [at3]

/-- The head weights at a grid point, read at an entry. -/
theorem block4 (c : Dev nD) (t : Fin cfg0.N) (h : Fin 256) : iblk m c 4 t (ix2 0 h) = head m c h := by
  rw [← V_v3]
  blk_simp [iblk]
  congr 1
  blk_ext [at4]

/-- What the body leaves at a grid point is the kernel's row of that batch row. -/
theorem leaves (c : Dev nD) (t : Fin cfg0.N) (d : Fin 64) :
    out0_5 (iblk m c 0 t) (iblk m c 1 t) (iblk m c 2 t) (iblk m c 3 t) (iblk m c 4 t) (ix3 0 0 d) = row m c (rowOf t) d := by
  rw [Block.block_apply]
  simp only [block0, block1, block2, block3, block4]

/-- The result array before its last reshape. -/
def whole (c : Dev nD) : Buf (Elt Ideal) ((c : Thread nD τ).loc main_v4) := fun i => row m c (i 0) (i 2)

/-- After the grid's run the result array holds the kernel's row in every batch row. -/
theorem final (c : Dev nD) : (dats m 0 c).arrAt 5 cfg0.N = whole m c := by
  refine (dats m 0 c).arrAt_eq_of_covers 5 _ (by decide +kernel) fun t hf y => ?_
  blk_simp
  rw [after0_5]
  have hy : ∃ d : Fin 64, y = (ix3 0 0 d : S1x1x64.Idx) := by
    refine ⟨y 2, ?_⟩
    funext a; fin_cases a
    · exact Subsingleton.elim (α := Fin 1) _ _
    · exact Subsingleton.elim (α := Fin 1) _ _
    · rfl
  obtain ⟨d, rfl⟩ := hy
  refine (leaves m c t d).trans ?_
  have e0 : (win0_5.blk t).view.emb (ix3 0 0 d : S1x1x64.Idx) 0 = rowOf t := by
    apply Fin.ext
    blk_simp [at5]
    exact Nat.add_zero _
  have e2 : (win0_5.blk t).view.emb (ix3 0 0 d : S1x1x64.Idx) 2 = d := by
    apply Fin.ext
    blk_simp [at5]
  exact (congrArg₂ (row m c) e0 e2).symm

/-- After the last reshape, entry by entry. -/
theorem result_apply (c : Dev nD) (b : Fin 128) (d : Fin 64) :
    Pipeline.afterTail₀ cfgs (dats m) 0 (V0 m) [hostOps1] c main_v5 (ix2 b d) = row m c b d := by
  have h : Pipeline.afterTail₀ cfgs (dats m) 0 (V0 m) [hostOps1] c main_v5 = shapeCast S128x64 (whole m c) shapeCasts_S128x1x64_S128x64 := by
    unfold Pipeline.afterTail₀
    show StableHlo.after [_] _ _ = _
    after_results
    erw [Pipeline.withArrays_arr spec0 launch0.win.arr_inj c _ _ 5]
    rw [final]
    rfl
  rw [h]
  clean_types
  pointwise [whole]

/-- The kernel's run: the result holds the kernel's row of the arguments, which end as they were. -/
theorem run : θ_run defs (onTc (τ := τ) (main (F := Ideal))) ⟨m, fun _ => 0, ρ⟩ fun r => ∀ c : Dev nD,
      (∀ b d, r.2.mem ((c : Thread nD τ).loc main_v5) (ix2 b d) = row m c b d)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨fun b d =>
      (congrFun ((h.1 c).2 main_v5 (Pipeline.mem_restRefs_of main_v5 (by decide) (by decide))) (ix2 b d)).trans (result_apply m c b d), h.2 c⟩)
    (θ_run_and (run_main m ρ) (unchanged m ρ))

end Cert.KernelIdeal.Whole

end
-- ==== Proof.Cumulative.lean ====
/- A running sum written as a sum over a sliding window that starts before the row: entry `j` is the sum of the entries up to `j`. -/
module

public import proofs.«01_k».proof.Proof.RunningSum
public import Idealize.ShloMosaic.Lib.Routing.Ops
public import Idealize.ShloMosaic.Lib.Pointwise

@[expose] public section

set_option maxRecDepth 16384

noncomputable section

namespace Cert.Cumulative

open Idealize.ShloMosaic Idealize.ShloMosaic.Routing Cert.RunningSum Finset

/-- A left fold of sums over all indices is the sum over them. -/
theorem foldl_eq_sum {M : ℕ} (g : Fin M → EReal) : (List.finRange M).foldl (fun r n => r + g n) 0 = ∑ n, g n := by
  rw [Fin.sum_univ_def, List.sum_eq_foldl, List.foldl_map]

/-- The entries a window of full length, ending at `j`, reaches inside the row are the entries up to `j`. -/
theorem sum_window_eq {K : ℕ} (a : Fin (K + 1) → EReal) (j : Fin (K + 1)) :
    ∑ n : Fin (K + 1), (if h : K ≤ j.val + n.val then a ⟨j.val + n.val - K, by omega⟩ else 0) = upTo a j := by
  unfold upTo
  rw [← sum_filter_add_sum_filter_not univ (fun n : Fin (K + 1) => K ≤ j.val + n.val)]
  rw [sum_eq_zero (s := univ.filter fun n : Fin (K + 1) => ¬ K ≤ j.val + n.val) fun n hn => dif_neg (mem_filter.1 hn).2, add_zero]
  refine sum_bij (fun n _ => ⟨j.val + n.val - K, by omega⟩) (fun n hn => ?_) (fun n hn n' hn' e => ?_) (fun l hl => ?_) (fun n hn => ?_)
  · rw [mem_filter] at hn ⊢
    exact ⟨mem_univ _, Fin.le_def.2 (by dsimp only; omega)⟩
  · have h1 := (mem_filter.1 hn).2
    have h2 := (mem_filter.1 hn').2
    have := Fin.val_eq_of_eq e
    apply Fin.ext
    dsimp only at this
    omega
  · have h1 := Fin.le_def.1 (mem_filter.1 hl).2
    refine ⟨⟨K + l.val - j.val, by omega⟩, mem_filter.2 ⟨mem_univ _, by dsimp only; omega⟩, Fin.ext ?_⟩
    dsimp only
    omega
  · exact dif_pos (mem_filter.1 hn).2

/-- A window-sum along the rows of a matrix, the window as long as a row and reaching back from each entry, is the row's running sum. -/
theorem running {B K : ℕ} (x : FVec Ideal (shape2 B (K + 1)) .f32) (init : FVec Ideal shape0 .f32) (hinit : ∀ i, init i = 0)
    (h : (shape2 B (K + 1)).ReduceWindows (![1, K + 1] : Fin 2 → Nat) ![1, 1] ![0, K] ![0, 0] (shape2 B (K + 1))) (hu : 0 < shape0.numel)
    (b : Fin B) (j : Fin (K + 1)) :
    Host.reduceWindowAdd ![1, K + 1] ![1, 1] ![0, K] ![0, 0] x init h hu (ix2 b j) = upTo (fun l => x (ix2 b l)) j := by
  have hj := j.isLt
  let g : Fin (shape2 1 (K + 1)).numel → EReal := fun n =>
    if hk : K ≤ j.val + n.val then x (ix2 b ⟨j.val + n.val - K, by have := (n.cast (numel2 (K + 1))).isLt; simp only [Fin.val_cast] at this; omega⟩) else 0
  refine Eq.trans (b := (List.finRange (shape2 1 (K + 1)).numel).foldl (fun r n => r + g n) 0) ?_ ?_
  · show Host.reduceWindow (fun p q : EReal => p + q) ![1, K + 1] ![1, 1] ![0, K] ![0, 0] x (fun _ => init (Shape.Idx.first hu)) h hu (ix2 b j) = _
    unfold Host.reduceWindow
    dsimp only
    rw [hinit]
    refine congrArg (fun f => List.foldl f (0 : EReal) (List.finRange (shape2 1 (K + 1)).numel)) (funext fun r => funext fun n => congrArg (r + ·) ?_)
    have hw0 : ((shape2 1 (K + 1)).rowMajor.symm n 0).val = 0 := by rw [symm2]; rfl
    have hw : ((shape2 1 (K + 1)).rowMajor.symm n 1).val = n.val := by rw [symm2]; rfl
    have hn : n.val < K + 1 := (n.cast (numel2 _)).isLt
    split
    · next hin =>
      have h1 := hin 1
      change K ≤ j.val * 1 + ((shape2 1 (K + 1)).rowMajor.symm n 1).val
        ∧ j.val * 1 + ((shape2 1 (K + 1)).rowMajor.symm n 1).val - K < K + 1 at h1
      rw [hw] at h1
      refine Eq.trans ?_ (dif_pos (show K ≤ j.val + n.val by omega)).symm
      refine congrArg x (funext fun a => Fin.ext ?_)
      match a with
      | ⟨0, _⟩ =>
        show b.val * 1 + ((shape2 1 (K + 1)).rowMajor.symm n 0).val - 0 = b.val
        rw [hw0, Nat.mul_one]
        rfl
      | ⟨1, _⟩ =>
        show j.val * 1 + ((shape2 1 (K + 1)).rowMajor.symm n 1).val - K = j.val + n.val - K
        rw [hw, Nat.mul_one]
    · next hin =>
      refine Eq.symm (dif_neg fun hle => hin fun a => by
        match a with
        | ⟨0, _⟩ =>
          show 0 ≤ b.val * 1 + ((shape2 1 (K + 1)).rowMajor.symm n 0).val ∧ b.val * 1 + ((shape2 1 (K + 1)).rowMajor.symm n 0).val - 0 < B
          rw [hw0, Nat.mul_one]
          exact ⟨Nat.zero_le _, b.isLt⟩
        | ⟨1, _⟩ =>
          show K ≤ j.val * 1 + ((shape2 1 (K + 1)).rowMajor.symm n 1).val
            ∧ j.val * 1 + ((shape2 1 (K + 1)).rowMajor.symm n 1).val - K < K + 1
          rw [hw]
          omega)
  · rw [foldl_eq_sum, ← sum_window_eq]
    exact Fintype.sum_equiv (finCongr (numel2 (K + 1))) _ _ fun n => rfl

end Cert.Cumulative

end
-- ==== Proof.ReferenceMarks.lean ====
/- The reference's weights and marks, read at an entry. -/
module

public import proofs.«01_k».proof.Proof.Row
public import proofs.«01_k».proof.Proof.Cumulative
public import proofs.«01_k».proof.Proof.Gen.ReferenceIdeal.Run
public import Idealize.ShloMosaic.Lib.Tactic.CleanTypes

@[expose] public section

set_option maxRecDepth 16384

noncomputable section

namespace Cert.ReferenceIdeal.Entries

open Idealize.ShloMosaic Cert.ReferenceIdeal Cert.ReferenceIdeal.Gen Cert.ReferenceIdeal.Value Cert.RunningSum Finset

variable (V0 : Valuation τ sig (Elt Ideal))

/-- The log-weights of batch row `b`. -/
abbrev logs (b : Fin 128) (l : Fin 8192) : EReal := V0 (Proc.devRef .tc main_arg1) (ix2 b l)
/-- The offset of batch row `b`. -/
abbrev offs (b : Fin 128) : EReal := V0 (Proc.devRef .tc main_arg2) (ix2 b 0)
/-- The particles of batch row `b`. -/
abbrev parts (b : Fin 128) (j : Fin 8192) (d : Fin 64) : EReal := V0 (Proc.devRef .tc main_arg0) (ix3 b j d)
/-- The first head matrix. -/
abbrev mat (d : Fin 64) (h : Fin 256) : EReal := V0 (Proc.devRef .tc main_arg3) (ix2 d h)
/-- The head weights. -/
abbrev head (h : Fin 256) : EReal := V0 (Proc.devRef .tc main_arg4) (ix1 h)

/-- A row maximum, started from the least extended real. -/
theorem top_apply (x : FVec Ideal S128x8192 .f32) (b : Fin 128) :
    Host.reduce FloatOps.maximumf x (constant S_ .f32 0xFF800000#32) reducesTo_S128x8192_S128_d1 h_S_ (ix1 b)
      = Cert.Row.top (fun l => x (ix2 b l)) := by
  pointwise
  rw [Cert.Row.lowest_eq]
  rfl

/-- The exponential of an entry less the number given for its row. -/
theorem shifted_apply (x : FVec Ideal S128x8192 .f32) (T : FVec Ideal S128 .f32) (b : Fin 128) (j : Fin 8192) :
    Host.exp (subf x (broadcastInDim S128x8192 ![0, 1] bcast_S128x1_S128x8192_0_1 (broadcastInDim S128x1 ![0] bcast_S128_S128x1_0 (maximumf (broadcastInDim S128 ![] bcast_S_S128 (constant S_ .f32 0xFF800000#32)) T)))) (ix2 b j)
      = Ideal.exp (x (ix2 b j) - T (ix1 b)) := by
  pointwise
  rw [Cert.Row.lowest_eq, max_eq_right bot_le]

/-- The exponential of an entry less its row's largest. -/
theorem raw_apply (x : FVec Ideal S128x8192 .f32) (b : Fin 128) (j : Fin 8192) :
    Host.exp (subf x (broadcastInDim S128x8192 ![0, 1] bcast_S128x1_S128x8192_0_1 (broadcastInDim S128x1 ![0] bcast_S128_S128x1_0 (maximumf (broadcastInDim S128 ![] bcast_S_S128 (constant S_ .f32 0xFF800000#32)) (Host.reduce FloatOps.maximumf x (constant S_ .f32 0xFF800000#32) reducesTo_S128x8192_S128_d1 h_S_))))) (ix2 b j)
      = Cert.Row.raw (fun l => x (ix2 b l)) j := by
  rw [shifted_apply, top_apply]
  rfl

/-- The exponentials of the log-weights less the row's largest. -/
theorem v6_apply (b : Fin 128) (j : Fin 8192) : res_main_v6 V0 (ix2 b j) = Cert.Row.raw (logs V0 b) j :=
  raw_apply (V0 (Proc.devRef .tc main_arg1)) b j

/-- The softmax weights. -/
theorem v10_apply (b : Fin 128) (j : Fin 8192) : res_main_v10 V0 (ix2 b j) = Cert.Row.prob (logs V0 b) j := by
  unfold res_main_v10
  clean_types
  pointwise
  simp only [v6_apply]
  rfl

/-- The mixed weights. -/
theorem v14_apply (b : Fin 128) (j : Fin 8192) : res_main_v14 V0 (ix2 b j) = Cert.Row.soft (logs V0 b) j := by
  unfold res_main_v14
  clean_types
  pointwise
  rw [v10_apply]
  rfl

/-- Their running sum. -/
theorem v15_apply (b : Fin 128) (j : Fin 8192) : res_main_v15 V0 (ix2 b j) = upTo (Cert.Row.soft (logs V0 b)) j := by
  unfold res_main_v15
  refine (Cert.Cumulative.running (B := 128) (K := 8191) (res_main_v14 V0) _ (fun i => Ideal.ofBits_zero .f32) _ _ b j).trans ?_
  exact congrArg (fun f => upTo f j) (funext fun l => v14_apply V0 b l)

end Cert.ReferenceIdeal.Entries

end
-- ==== Proof.Gathers.lean ====
/- Taking entries along a row of a batch, read at an entry: each batch row has its own list of positions. -/
module

public import Idealize.ShloMosaic.Lib.ValueIdxCore
public import Idealize.ShloMosaic.Lib.Pointwise

@[expose] public section

namespace Cert.Gathers

open Idealize.ShloMosaic

variable {α : Type} {B N R D w : ℕ}

/-- The dimension numbers of a take along the rows of a matrix, one list of positions per row. -/
abbrev alongRows (B N R : ℕ) (wf : GatherDims.WF ⟨2, ![B, N]⟩ ⟨3, ![B, R, 1]⟩ ⟨2, ![B, R]⟩ [] [1] [0] [1] [0] 2 ![1, 1]) :
    GatherDims ⟨2, ![B, N]⟩ ⟨3, ![B, R, 1]⟩ ⟨2, ![B, R]⟩ where
  offsetDims := []
  collapsedSliceDims := [1]
  operandBatchingDims := [0]
  startIndicesBatchingDims := [0]
  startIndexMap := [1]
  indexVectorDim := 2
  sliceSizes := ![1, 1]
  wf := wf

/-- Entry `(b, i)` of a take along the rows is the row's entry at the position listed there, when that position is in the row. -/
theorem alongRows_apply (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ w) (b : Fin B) (i : Fin R) (k : Fin N)
    (hk : (idx (ix3 b i 0)).toInt = k.val) : Host.gather (alongRows B N R wf) x idx (ix2 b i) = x (ix2 b k) := by
  unfold Host.gather
  congr 1
  funext a
  refine Fin.ext ?_
  show (alongRows B N R wf).start (ix2 b i) idx a + (alongRows B N R wf).batchCoord (ix2 b i) a
      + (alongRows B N R wf).offCoord (ix2 b i) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongRows B N R wf).startIndexMap from List.mem_singleton.mpr rfl)]
    have hsi : (alongRows B N R wf).siIdx (ix2 b i) ⟨List.idxOf (1 : Fin 2) (alongRows B N R wf).startIndexMap,
        List.idxOf_lt_length_iff.2 (List.mem_singleton.mpr rfl)⟩ = ix3 b i 0 := by
      funext c; refine Fin.ext ?_
      match c with
      | ⟨0, _⟩ => rfl
      | ⟨1, _⟩ => rfl
      | ⟨2, _⟩ => rfl
    rw [hsi, hk]
    show min ((k.val : ℤ).toNat) (N - 1) = k.val
    rw [Int.toNat_natCast]
    have := k.isLt
    omega

/-- The dimension numbers of a take of whole vectors along the middle axis, one list of positions per batch row. -/
abbrev alongSlabs (B N R D : ℕ) (wf : GatherDims.WF ⟨3, ![B, N, D]⟩ ⟨3, ![B, R, 1]⟩ ⟨3, ![B, R, D]⟩ [2] [1] [0] [1] [0] 2 ![1, 1, D]) :
    GatherDims ⟨3, ![B, N, D]⟩ ⟨3, ![B, R, 1]⟩ ⟨3, ![B, R, D]⟩ where
  offsetDims := [2]
  collapsedSliceDims := [1]
  operandBatchingDims := [0]
  startIndicesBatchingDims := [0]
  startIndexMap := [1]
  indexVectorDim := 2
  sliceSizes := ![1, 1, D]
  wf := wf

/-- Entry `(b, i, d)` of a take of vectors is entry `d` of the vector at the position listed there, when that position is in range. -/
theorem alongSlabs_apply (wf : GatherDims.WF ⟨3, ![B, N, D]⟩ ⟨3, ![B, R, 1]⟩ ⟨3, ![B, R, D]⟩ [2] [1] [0] [1] [0] 2 ![1, 1, D])
    (x : (⟨3, ![B, N, D]⟩ : Shape).Idx → α) (idx : IVec ⟨3, ![B, R, 1]⟩ w) (b : Fin B) (i : Fin R) (d : Fin D) (k : Fin N)
    (hk : (idx (ix3 b i 0)).toInt = k.val) : Host.gather (alongSlabs B N R D wf) x idx (ix3 b i d) = x (ix3 b k d) := by
  unfold Host.gather
  congr 1
  funext a
  refine Fin.ext ?_
  show (alongSlabs B N R D wf).start (ix3 b i d) idx a + (alongSlabs B N R D wf).batchCoord (ix3 b i d) a
      + (alongSlabs B N R D wf).offCoord (ix3 b i d) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (alongSlabs B N R D wf).startIndexMap from List.mem_singleton.mpr rfl)]
    have hsi : (alongSlabs B N R D wf).siIdx (ix3 b i d) ⟨List.idxOf (1 : Fin 3) (alongSlabs B N R D wf).startIndexMap,
        List.idxOf_lt_length_iff.2 (List.mem_singleton.mpr rfl)⟩ = ix3 b i 0 := by
      funext c; refine Fin.ext ?_
      match c with
      | ⟨0, _⟩ => rfl
      | ⟨1, _⟩ => rfl
      | ⟨2, _⟩ => rfl
    rw [hsi, hk]
    show min ((k.val : ℤ).toNat) (N - 1) = k.val
    rw [Int.toNat_natCast]
    have := k.isLt
    omega
  · rw [GatherDims.batchCoord_eq_zero _ _ _ (fun h => by simp at h)]
    have hs : (alongSlabs B N R D wf).start (ix3 b i d) idx 2 = 0 := by
      unfold GatherDims.start
      rw [dif_neg (fun h => by simp at h)]
    rw [hs]
    simp only [Nat.zero_add, Nat.add_zero]
    unfold GatherDims.offCoord
    rw [dif_pos (by rw [GatherDims.mem_sKept]; exact ⟨fun h => by simp at h, fun h => by simp at h⟩)]
    rfl

end Cert.Gathers
-- ==== Proof.ReferenceDraws.lean ====
/- The particles the reference draws: the index word of each draw, and the gathers by it. -/
module

public import proofs.«01_k».proof.Proof.ReferenceMarks
public import proofs.«01_k».proof.Proof.Gathers
public import Idealize.ShloMosaic.Lib.IndicatorCount

@[expose] public section

set_option maxRecDepth 16384

noncomputable section

namespace Cert.ReferenceIdeal.Entries

open Idealize.ShloMosaic Cert.ReferenceIdeal Cert.ReferenceIdeal.Gen Cert.ReferenceIdeal.Value Cert.RunningSum Finset

variable (V0 : Valuation τ sig (Elt Ideal))

/-- A small natural, read back from its word as a signed integer. -/
theorem toInt_small {n : ℕ} (hn : n < 16384) : (BitVec.ofNat 32 n).toInt = n := by
  rw [BitVec.toInt_eq_toNat_of_lt (by rw [BitVec.toNat_ofNat]; omega), BitVec.toNat_ofNat, Nat.mod_eq_of_lt (by omega)]

/-- A small word is not negative, read as a signed integer. -/
theorem not_negative {n : ℕ} (hn : n < 16384) : ((BitVec.ofNat 32 n).slt 0#32) = false := by
  rw [BitVec.slt_eq_decide, toInt_small hn]
  exact decide_eq_false (by rw [BitVec.toInt_zero]; omega)

/-- A word in range is at least zero, read as a signed integer. -/
theorem zero_le {n : ℕ} (hn : n < 16384) : ((0#32).sle (BitVec.ofNat 32 n)) = true := by
  rw [BitVec.sle_eq_decide, toInt_small hn]
  exact decide_eq_true (by rw [BitVec.toInt_zero]; omega)

/-- A word in range is at most the last index. -/
theorem le_last {n : ℕ} (hn : n < 8192) : ((BitVec.ofNat 32 n).sle 8191#32) = true := by
  rw [BitVec.sle_eq_decide, toInt_small (by omega), show (8191#32).toInt = ((8191 : ℕ) : ℤ) from toInt_small (n := 8191) (by omega)]
  exact decide_eq_true (by omega)

/-- Clipping an index in range between the first and the last leaves it. -/
theorem clip_small {n : ℕ} (hn : n < 8192) : IntOp.minsi 8191#32 (IntOp.maxsi 0#32 (BitVec.ofNat 32 n)) = BitVec.ofNat 32 n := by
  have h1 : IntOp.maxsi 0#32 (BitVec.ofNat 32 n) = BitVec.ofNat 32 n := by
    unfold IntOp.maxsi
    rw [not_negative (by omega)]
    rfl
  rw [h1]
  unfold IntOp.minsi
  rw [BitVec.slt_eq_decide, show (8191#32).toInt = ((8191 : ℕ) : ℤ) from toInt_small (n := 8191) (by omega), toInt_small (n := n) (by omega),
    decide_eq_false (by omega)]
  rfl

/-- An index in range is not moved by the wrapping of negative ones. -/
theorem wrap_small {n : ℕ} (hn : n < 8192) :
    Scalar.select (IntOp.cmpi CmpIPredicate.slt (BitVec.ofNat 32 n) 0#32) (IntOp.addi (BitVec.ofNat 32 n) 8192#32) (BitVec.ofNat 32 n) = BitVec.ofNat 32 n := by
  have h : IntOp.cmpi CmpIPredicate.slt (BitVec.ofNat 32 n) 0#32 = 0#1 := by
    show BitVec.ofBool ((BitVec.ofNat 32 n).slt 0#32) = _
    rw [not_negative (by omega)]
    rfl
  rw [h]
  rfl

/-- An index in range passes the bounds check. -/
theorem in_bounds {n : ℕ} (hn : n < 8192) :
    IntOp.andi (IntOp.cmpi CmpIPredicate.sge (BitVec.ofNat 32 n) 0#32) (IntOp.cmpi CmpIPredicate.sle (BitVec.ofNat 32 n) 8191#32) = 1#1 := by
  show IntOp.andi (BitVec.ofBool ((0#32).sle (BitVec.ofNat 32 n))) (BitVec.ofBool ((BitVec.ofNat 32 n).sle 8191#32)) = _
  rw [zero_le (by omega), le_last hn]
  rfl

/-- The conjunction of the bounds checks over the one index component, when it is in range. -/
theorem checks {n : ℕ} (hn : n < 8192) (f : Fin 1 → BitVec 32) (hf : f 0 = BitVec.ofNat 32 n) :
    (univ : Finset (Fin 1)).fold IntOp.andi (1#1)
      (fun x => IntOp.andi (IntOp.cmpi CmpIPredicate.sge (f x) 0#32) (IntOp.cmpi CmpIPredicate.sle (f x) 8191#32)) = 1#1 := by
  rw [univ_unique, fold_singleton]
  show IntOp.andi (IntOp.andi (IntOp.cmpi CmpIPredicate.sge (f 0) 0#32) (IntOp.cmpi CmpIPredicate.sle (f 0) 8191#32)) 1#1 = 1#1
  rw [hf, in_bounds hn]
  rfl

/-- A sum of bits along the last axis counts the ones. -/
theorem count_apply (M : IVec S128x8192x8192 1) (b : Fin 128) (i : Fin 8192) :
    Host.reduce IntOp.addi (extui 32 M natLt_1_32) (constantI S_ 32 0#32) reducesTo_S128x8192x8192_S128x8192_d2 h_S_ (ix2 b i)
      = BitVec.ofNat 32 (univ.filter fun l : Fin 8192 => M (ix3 b i l) = 1#1).card := by
  rw [← IndicatorCount.fold_addi_setWidth_eq_card]
  pointwise

/-- The comparison of every mark with every position. -/
theorem under_apply (c : FVec Ideal S128x8192 .f32) (t : FVec Ideal S128x8192 .f32) (b : Fin 128) (i l : Fin 8192) :
    cmpf .olt (broadcastInDim S128x8192x8192 ![0, 1, 2] bcast_S128x1x8192_S128x8192x8192_0_1_2 (broadcastInDim S128x1x8192 ![0, 2] bcast_S128x8192_S128x1x8192_0_2 c))
      (broadcastInDim S128x8192x8192 ![0, 1, 2] bcast_S128x8192x1_S128x8192x8192_0_1_2 (broadcastInDim S128x8192x1 ![0, 1] bcast_S128x8192_S128x8192x1_0_1 t)) (ix3 b i l) = 1#1
      ↔ c (ix2 b l) < t (ix2 b i) := by
  pointwise
  exact Cert.Row.bit_iff _

/-- The marks, from a running sum. -/
theorem marks_apply (s : FVec Ideal S128x8192 .f32) (b : Fin 128) (l : Fin 8192) :
    Host.divf s (broadcastInDim S128x8192 ![0, 1] bcast_S128x1_S128x8192_0_1 (extractStridedSlice S128x1 ![0, 8191] s slices_S128x8192_S128x1_0_8191)) (ix2 b l)
      = Ideal.div (s (ix2 b l)) (s (ix2 b ⟨8191, by omega⟩)) := by
  pointwise

/-- The positions, from the offsets. -/
theorem positions_apply (u : FVec Ideal S128x1 .f32) (b : Fin 128) (i : Fin 8192) :
    Host.divf (addf (broadcastInDim S128x8192 ![0, 1] bcast_S1x8192_S128x8192_0_1 (broadcastInDim S1x8192 ![1] bcast_S8192_S1x8192_1 (sitofp .f32 (iotaInDim S8192 32 0)))) (broadcastInDim S128x8192 ![0, 1] bcast_S128x1_S128x8192_0_1 u)) (broadcastInDim S128x8192 ![] bcast_S_S128x8192 (constant S_ .f32 0x46000000#32)) (ix2 b i)
      = Cert.Row.pos (u (ix2 b 0)) i := by
  pointwise
  have e : (FloatOps.sitofp (F := Ideal) FTy.f32 (BitVec.ofNat 32 i.val) : EReal) = ((i.val : ℝ) : EReal) := by
    show (((BitVec.ofNat 32 i.val).toInt : ℝ) : EReal) = _
    rw [toInt_small (by omega)]
    rfl
  rw [e]
  rfl

/-- Clipping between the first and the last index, at an entry. -/
theorem clip_apply (x : IVec S128x8192 32) (b : Fin 128) (i : Fin 8192) {n : ℕ} (hn : n < 8192) (hx : x (ix2 b i) = BitVec.ofNat 32 n) :
    minsi (broadcastInDim S128x8192 ![] bcast_S_S128x8192 (id (constantI S_ 32 8191#32))) (maxsi (broadcastInDim S128x8192 ![] bcast_S_S128x8192 (id (constantI S_ 32 0#32))) x) (ix2 b i)
      = BitVec.ofNat 32 n := by
  refine Eq.trans ?_ (clip_small hn)
  exact congrArg (fun z => IntOp.minsi 8191#32 (IntOp.maxsi 0#32 z)) hx

/-- The index word of each draw: the number of marks below its position. -/
theorem v33_apply (b : Fin 128) (i : Fin 8192) (k : Fin 8192) (hk : k.val = Cert.Row.below (logs V0 b) (offs V0 b) i) :
    res_main_v33 V0 (ix2 b i) = BitVec.ofNat 32 k.val := by
  unfold res_main_v33
  refine clip_apply _ b i k.isLt ((count_apply _ b i).trans ?_)
  rw [hk]
  unfold Cert.Row.below
  refine congrArg (BitVec.ofNat 32) (congrArg card (filter_congr fun l _ => (under_apply _ _ b i l).trans ?_))
  rw [marks_apply, v15_apply, v15_apply]
  exact iff_of_eq (congrArg (Cert.Row.mark (logs V0 b) l < ·) (positions_apply (V0 (Proc.devRef .tc main_arg2)) b i))

/-- The bounds check of an index list passes where the index is in range. -/
theorem bounds_apply (I : IVec S128x8192x1 32) (b : Fin 128) (i : Fin 8192) {n : ℕ} (hn : n < 8192) (hI : I (ix3 b i 0) = BitVec.ofNat 32 n) :
    Host.reduce IntOp.andi (andi (cmpi .sge I (broadcastInDim S128x8192x1 ![] bcast_S_S128x8192x1 (constantI S_ 32 0#32))) (cmpi .sle I (broadcastInDim S128x8192x1 ![0, 1, 2] bcast_S1x1x1_S128x8192x1_0_1_2 (broadcastInDim S1x1x1 ![2] bcast_S1_S1x1x1_2 (constantI S1 32 8191#32))))) (constantI S_ 1 1#1) reducesTo_S128x8192x1_S128x8192_d2 h_S_ (ix2 b i)
      = 1#1 := by
  refine Eq.trans ?_ (checks hn (fun x => I (ix3 b i x)) hI)
  pointwise

/-- A selection takes its first branch where the condition holds. -/
theorem picked {s : Shape} (c : IVec s 1) (t e : FVec Ideal s .f32) (i : s.Idx) (h : c i = 1#1) : select c t e i = t i := by
  show Scalar.select (c i) (t i) (e i) = t i
  rw [h]
  rfl

/-- A take along the rows, with its bounds check, reads the entry at the index where that is in range. -/
theorem take_apply (x : FVec Ideal S128x8192 .f32) (I : IVec S128x8192x1 32) (b : Fin 128) (i : Fin 8192) (k : Fin 8192) (hI : I (ix3 b i 0) = BitVec.ofNat 32 k.val) :
    select (Host.reduce IntOp.andi (andi (cmpi .sge I (broadcastInDim S128x8192x1 ![] bcast_S_S128x8192x1 (constantI S_ 32 0#32))) (cmpi .sle I (broadcastInDim S128x8192x1 ![0, 1, 2] bcast_S1x1x1_S128x8192x1_0_1_2 (broadcastInDim S1x1x1 ![2] bcast_S1_S1x1x1_2 (constantI S1 32 8191#32))))) (constantI S_ 1 1#1) reducesTo_S128x8192x1_S128x8192_d2 h_S_)
      (Host.gather gather_S128x8192_S128x8192x1_S128x8192_n_1_0_0_1_2_11 x I) (broadcastInDim S128x8192 ![] bcast_S_S128x8192 (constant S_ .f32 0x7FC00000#32)) (ix2 b i)
      = x (ix2 b k) := by
  refine (picked _ _ _ _ (bounds_apply I b i k.isLt hI)).trans ?_
  exact Cert.Gathers.alongRows_apply (B := 128) (N := 8192) (R := 8192) _ x I b i k (by rw [hI]; exact toInt_small (by omega))

/-- A take of vectors, with its bounds check, reads the vector at the index where that is in range. -/
theorem takes_apply (x : FVec Ideal S128x8192x64 .f32) (I : IVec S128x8192x1 32) (b : Fin 128) (i : Fin 8192) (d : Fin 64) (k : Fin 8192) (hI : I (ix3 b i 0) = BitVec.ofNat 32 k.val) :
    select (broadcastInDim S128x8192x64 ![0, 1] bcast_S128x8192_S128x8192x64_0_1 (Host.reduce IntOp.andi (andi (cmpi .sge I (broadcastInDim S128x8192x1 ![] bcast_S_S128x8192x1 (constantI S_ 32 0#32))) (cmpi .sle I (broadcastInDim S128x8192x1 ![0, 1, 2] bcast_S1x1x1_S128x8192x1_0_1_2 (broadcastInDim S1x1x1 ![2] bcast_S1_S1x1x1_2 (constantI S1 32 8191#32))))) (constantI S_ 1 1#1) reducesTo_S128x8192x1_S128x8192_d2 h_S_))
      (Host.gather gather_S128x8192x64_S128x8192x1_S128x8192x64_2_1_0_0_1_2_1164 x I) (broadcastInDim S128x8192x64 ![] bcast_S_S128x8192x64 (constant S_ .f32 0x7FC00000#32)) (ix3 b i d)
      = x (ix3 b k d) := by
  have spread : ∀ M : IVec S128x8192 1, broadcastInDim S128x8192x64 ![0, 1] bcast_S128x8192_S128x8192x64_0_1 M (ix3 b i d) = M (ix2 b i) := fun M => by
    pointwise
  refine (picked _ _ _ _ ((spread _).trans (bounds_apply I b i k.isLt hI))).trans ?_
  exact Cert.Gathers.alongSlabs_apply (B := 128) (N := 8192) (R := 8192) (D := 64) _ x I b i d k (by rw [hI]; exact toInt_small (by omega))

/-- The index words the takes read are the draws' own. -/
theorem call2_apply (b : Fin 128) (i : Fin 8192) (k : Fin 8192) (hk : res_main_v33 V0 (ix2 b i) = BitVec.ofNat 32 k.val) :
    res_main_call2_v4 V0 (ix3 b i 0) = BitVec.ofNat 32 k.val := by
  unfold res_main_call2_v4 res_main_v34
  clean_types
  pointwise
  rw [hk]
  exact wrap_small k.isLt

/-- The index words of the first of the two weight takes are the draws' own. -/
theorem call3_apply (b : Fin 128) (i : Fin 8192) (k : Fin 8192) (hk : res_main_v33 V0 (ix2 b i) = BitVec.ofNat 32 k.val) :
    res_main_call3_v5 V0 (ix3 b i 0) = BitVec.ofNat 32 k.val := by
  unfold res_main_call3_v5
  clean_types
  pointwise
  rw [hk]
  exact wrap_small k.isLt

/-- The index words of the second weight take are the draws' own. -/
theorem call4_apply (b : Fin 128) (i : Fin 8192) (k : Fin 8192) (hk : res_main_v33 V0 (ix2 b i) = BitVec.ofNat 32 k.val) :
    res_main_call4_v5 V0 (ix3 b i 0) = BitVec.ofNat 32 k.val := by
  unfold res_main_call4_v5
  clean_types
  pointwise
  rw [hk]
  exact wrap_small k.isLt

/-- The drawn particles. -/
theorem v35_apply (b : Fin 128) (i : Fin 8192) (d : Fin 64) (k : Fin 8192) (hk : res_main_v33 V0 (ix2 b i) = BitVec.ofNat 32 k.val) :
    res_main_v35 V0 (ix3 b i d) = parts V0 b k d :=
  takes_apply (V0 (Proc.devRef .tc main_arg0)) (res_main_call2_v4 V0) b i d k (call2_apply V0 b i k hk)

end Cert.ReferenceIdeal.Entries

end
-- ==== Proof.ReferenceRow.lean ====
/- The reference's result, read at an entry: its row of the arguments. -/
module

public import proofs.«01_k».proof.Proof.ReferenceDraws

@[expose] public section

set_option maxRecDepth 16384

noncomputable section

namespace Cert.ReferenceIdeal.Entries

open Idealize.ShloMosaic Cert.ReferenceIdeal Cert.ReferenceIdeal.Gen Cert.ReferenceIdeal.Value Cert.RunningSum Finset Idealize.SL.Sem Idealize.ShloMosaic.StableHlo

variable (V0 : Valuation τ sig (Elt Ideal))

/-- The two products of the head, at an entry: the score of the particle there. -/
theorem head_apply (q : FVec Ideal S128x8192x64 .f32) (W : FVec Ideal S64x256 .f32) (w : FVec Ideal S256 .f32) (b : Fin 128) (i : Fin 8192) :
    Host.dotGeneral dot_S128x8192x256_S256_S128x8192_2_0_01_n_n_n none (Host.tanh (Host.dotGeneral dot_S128x8192x64_S64x256_S128x8192x256_2_0_01_1_n_n none q W)) w (ix2 b i)
      = Cert.Row.score (fun d h => W (ix2 d h)) (fun h => w (ix1 h)) (fun d => q (ix3 b i d)) := by
  pointwise
  rfl

/-- A quotient of takes and a logarithm, at an entry. -/
theorem logs_apply (x y s : FVec Ideal S128x8192 .f32) (b : Fin 128) (i : Fin 8192) :
    addf (Host.log (addf (Host.divf x (addf y (broadcastInDim S128x8192 ![] bcast_S_S128x8192 (constant S_ .f32 0x322BCC77#32)))) (broadcastInDim S128x8192 ![] bcast_S_S128x8192 (constant S_ .f32 0x322BCC77#32)))) s (ix2 b i)
      = Ideal.log (Ideal.div (x (ix2 b i)) (y (ix2 b i) + Cert.Row.tiny) + Cert.Row.tiny) + s (ix2 b i) := by
  pointwise

/-- The log-weights of the drawn particles. -/
theorem v47_apply (b : Fin 128) (i : Fin 8192) (k : Fin 8192) (hk : res_main_v33 V0 (ix2 b i) = BitVec.ofNat 32 k.val) :
    res_main_v47 V0 (ix2 b i) = Cert.Row.logw (logs V0 b) (mat V0) (head V0) (parts V0 b) k := by
  unfold res_main_v47
  refine (logs_apply _ _ _ b i).trans ?_
  rw [take_apply _ _ b i k (call3_apply V0 b i k hk), take_apply _ _ b i k (call4_apply V0 b i k hk), v10_apply, v14_apply]
  refine congrArg (Ideal.log (Cert.Row.weight (logs V0 b) k) + ·) ?_
  refine (head_apply (res_main_v35 V0) (V0 (Proc.devRef .tc main_arg3)) (V0 (Proc.devRef .tc main_arg4)) b i).trans ?_
  exact congrArg (Cert.Row.score (mat V0) (head V0)) (funext fun d => v35_apply V0 b i d k hk)

/-- The drawn particles' unnormalised weights. -/
theorem v54_apply (b : Fin 128) (i : Fin 8192) (idx : Fin 8192 → Fin 8192) (hidx : ∀ i, res_main_v33 V0 (ix2 b i) = BitVec.ofNat 32 (idx i).val) :
    res_main_v54 V0 (ix2 b i) = Cert.Row.raw (fun k => Cert.Row.logw (logs V0 b) (mat V0) (head V0) (parts V0 b) (idx k)) i := by
  unfold res_main_v54
  refine (raw_apply (res_main_v47 V0) b i).trans ?_
  exact congrArg (fun x => Cert.Row.raw x i) (funext fun i => v47_apply V0 b i (idx i) (hidx i))

/-- The weighted mean of vectors with weights made to sum to one, at an entry. -/
theorem mean_apply (e : FVec Ideal S128x8192 .f32) (q : FVec Ideal S128x8192x64 .f32) (b : Fin 128) (d : Fin 64) :
    Host.reduceAdd (mulf (broadcastInDim S128x8192x64 ![0, 1, 2] bcast_S128x8192x1_S128x8192x64_0_1_2 (broadcastInDim S128x8192x1 ![0, 1] bcast_S128x8192_S128x8192x1_0_1 (Host.divf e (broadcastInDim S128x8192 ![0, 1] bcast_S128x1_S128x8192_0_1 (broadcastInDim S128x1 ![0] bcast_S128_S128x1_0 (Host.reduceAdd e (constant S_ .f32 0x00000000#32) reducesTo_S128x8192_S128_d1 h_S_)))))) q) (constant S_ .f32 0x00000000#32) reducesTo_S128x8192x64_S128x64_d1 h_S_ (ix2 b d)
      = ∑ i : Fin 8192, Ideal.div (e (ix2 b i)) (∑ k : Fin 8192, e (ix2 b k)) * q (ix3 b i d) := by
  pointwise

/-- The reference's result at an entry is its row of the arguments. -/
theorem result_apply (b : Fin 128) (d : Fin 64) (idx : Fin 8192 → Fin 8192) (hidx : ∀ i, (idx i).val = Cert.Row.below (logs V0 b) (offs V0 b) i) :
    Host.reduceAdd (mulf (broadcastInDim S128x8192x64 ![0, 1, 2] bcast_S128x8192x1_S128x8192x64_0_1_2 (broadcastInDim S128x8192x1 ![0, 1] bcast_S128x8192_S128x8192x1_0_1 (Host.divf (res_main_v54 V0) (broadcastInDim S128x8192 ![0, 1] bcast_S128x1_S128x8192_0_1 (broadcastInDim S128x1 ![0] bcast_S128_S128x1_0 (Host.reduceAdd (res_main_v54 V0) (constant S_ .f32 0x00000000#32) reducesTo_S128x8192_S128_d1 h_S_)))))) (res_main_v35 V0)) (constant S_ .f32 0x00000000#32) reducesTo_S128x8192x64_S128x64_d1 h_S_ (ix2 b d)
      = Cert.Row.referenceRow (logs V0 b) (mat V0) (head V0) (parts V0 b) idx d := by
  have h33 : ∀ i, res_main_v33 V0 (ix2 b i) = BitVec.ofNat 32 (idx i).val := fun i => v33_apply V0 b i (idx i) (hidx i)
  refine (mean_apply _ _ b d).trans ?_
  unfold Cert.Row.referenceRow
  have h54 : ∀ i, res_main_v54 V0 (ix2 b i) = Cert.Row.raw (fun k => Cert.Row.logw (logs V0 b) (mat V0) (head V0) (parts V0 b) (idx k)) i :=
    fun i => v54_apply V0 b i idx h33
  simp only [h54]
  refine sum_congr rfl fun i _ => ?_
  rw [v35_apply V0 b i d (idx i) (h33 i)]

/-- The reference's run: the result holds the reference's row of the arguments in every batch row, for the particles
    that the counts of marks choose, and the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 128) (d : Fin 64) (idx : Fin 8192 → Fin 8192),
        (∀ i, (idx i).val = Cert.Row.below (logs (launchContents m c) b) (offs (launchContents m c) b) i) →
          r.2.mem ((c.tc : Thread nD τ).loc main_v62) (ix2 b d)
            = Cert.Row.referenceRow (logs (launchContents m c) b) (mat (launchContents m c)) (head (launchContents m c)) (parts (launchContents m c) b) idx d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨fun b d idx hidx => (congrFun (h c).1 (ix2 b d)).trans (result_apply (launchContents m c) b d idx hidx), (h c).2⟩)
    (Value.run m ρ)

end Cert.ReferenceIdeal.Entries

end
-- ==== Proof.Agreement.lean ====
/- The value claim: from memories agreeing on proper arguments, the kernel and the reference leave the same array. -/
module

public import proofs.«01_k».proof.Defs
public import proofs.«01_k».proof.Proof.RowReal
public import proofs.«01_k».proof.Proof.KernelArray
public import proofs.«01_k».proof.Proof.ReferenceRow
public import proofs.«01_k».proof.Proof.Precondition

@[expose] public section

set_option maxRecDepth 16384

noncomputable section

namespace Cert.Agreement

open Idealize.ShloMosaic Idealize.SL.Sem Idealize.ShloMosaic.TcCoe Idealize.ShloMosaic.StableHlo

/-- An extended real strictly between the infinities is a real number. -/
theorem real_of {a : EReal} (h : ⊥ < a) (h' : a < ⊤) : ∃ r : ℝ, a = (r : EReal) :=
  ⟨a.toReal, (EReal.coe_toReal h'.ne h.ne').symm⟩

/-- For proper arguments the kernel's row is the reference's, at the choice of particles that the counts of marks make. -/
theorem rows (x : Fin 8192 → EReal) (u : EReal) (W : Fin 64 → Fin 256 → EReal) (w : Fin 256 → EReal) (p : Fin 8192 → Fin 64 → EReal)
    (hu : 0 ≤ u ∧ u ≤ 1) (hx : ⊥ < Cert.Row.top x ∧ Cert.Row.top x < ⊤) (hw : ∀ h, ⊥ < w h ∧ w h < ⊤) :
    ∃ idx : Fin 8192 → Fin 8192, (∀ i, (idx i).val = Cert.Row.below x u i)
      ∧ ∀ d, Cert.Row.kernelRow x u W w p d = Cert.Row.referenceRow x W w p idx d := by
  obtain ⟨r, hr⟩ := real_of hx.1 hx.2
  obtain ⟨v, rfl⟩ := real_of (lt_of_lt_of_le EReal.bot_lt_zero hu.1) (lt_of_le_of_lt hu.2 (EReal.coe_lt_top 1))
  have h0 : 0 ≤ v := EReal.coe_nonneg.mp hu.1
  have h1 : v ≤ 1 := EReal.coe_le_coe_iff.mp hu.2
  exact ⟨fun i => ⟨_, Cert.Row.below_lt x hr h1 i⟩, fun _ => rfl,
    fun d => Cert.Row.rows_agree x hr h0 h1 W w hw p _ (fun _ => rfl) d⟩

/-- An index into a rectangle is the pair of its coordinates. -/
theorem pair {A B : ℕ} (i : Shape.Idx ⟨2, ![A, B]⟩) : i = ix2 (i 0) (i 1) := by
  funext a
  match a with
  | 0 => rfl
  | 1 => rfl

/-- The array both programs leave on a device: in batch row `b` the kernel's row of the arguments. -/
def array (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v5) :=
  fun i => Cert.KernelIdeal.Whole.row m c (i 0) (i 1)

/-- The kernel and the reference, run on the same proper arguments, leave equal arrays and their arguments unchanged. -/
theorem algebraic : Cert.algebraic_KernelIdeal_ReferenceIdeal_pre_proper_inputs (hKernelIdeal := Cert.KernelIdeal.Gen.facts)
    (hReferenceIdeal := Cert.ReferenceIdeal.Gen.facts) (hPre_proper_inputs := Cert.Proper.facts) := by
  intro m g m' g' hpre hsame
  refine ⟨array m, ?_, ?_⟩
  · refine (θ_run Cert.KernelIdeal.defs _ _).mono (fun r h c => ⟨funext fun i => ?_, (h c).2⟩) (Cert.KernelIdeal.Whole.run m g)
    rw [pair i]
    exact (h c).1 (i 0) (i 1)
  · refine (θ_run Cert.ReferenceIdeal.defs _ _).mono (fun r h c => ⟨funext fun i => ?_, (h c).2⟩)
      (Cert.ReferenceIdeal.Entries.run m' g')
    obtain ⟨e0, e1, e2, e3, e4⟩ := hsame c
    haveI := Cert.Proper.facts
    obtain ⟨hu, hx, hw⟩ := Cert.Proper.decoded _ _ _ _ _ (hpre c)
    obtain ⟨idx, hidx, hrow⟩ := rows (Cert.KernelIdeal.Whole.logs m c (i 0)) (Cert.KernelIdeal.Whole.offs m c (i 0)) (Cert.KernelIdeal.Whole.mat m c)
      (Cert.KernelIdeal.Whole.head m c) (Cert.KernelIdeal.Whole.parts m c (i 0)) (hu (i 0)) (hx (i 0)) hw
    have l : Cert.ReferenceIdeal.Entries.logs (launchContents m' c) (i 0) = Cert.KernelIdeal.Whole.logs m c (i 0) :=
      funext fun k => congrFun e1 (ix2 (i 0) k)
    have o : Cert.ReferenceIdeal.Entries.offs (launchContents m' c) (i 0) = Cert.KernelIdeal.Whole.offs m c (i 0) :=
      congrFun e2 (ix2 (i 0) 0)
    have q : Cert.ReferenceIdeal.Entries.parts (launchContents m' c) (i 0) = Cert.KernelIdeal.Whole.parts m c (i 0) :=
      funext fun j => funext fun d => congrFun e0 (ix3 (i 0) j d)
    have a : Cert.ReferenceIdeal.Entries.mat (launchContents m' c) = Cert.KernelIdeal.Whole.mat m c :=
      funext fun d => funext fun k => congrFun e3 (ix2 d k)
    have z : Cert.ReferenceIdeal.Entries.head (launchContents m' c) = Cert.KernelIdeal.Whole.head m c :=
      funext fun k => congrFun e4 (ix1 k)
    have ri := (h c).1 (i 0) (i 1) idx (by rw [l, o]; exact hidx)
    rw [l, q, a, z, ← hrow (i 1)] at ri
    exact (congrArg (r.2.mem _) (pair i)).trans ri

end Cert.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Precondition
public import proofs.«01_k».proof.Proof.Agreement
public import Idealize.ShloMosaic.Adequacy
public import Idealize.ShloMosaic.Init

@[expose] public section

noncomputable section

namespace Cert.Proof

open Idealize.ShloMosaic Idealize.SL.Sem

/-- The reference runs to an end with its arguments unchanged, and it has no semaphore to leave raised. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Proper.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, Cert.Agreement.algebraic⟩

end Cert.Proof

end
